-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clip_idle_KernelIdeal [hPre_clip_idle_KernelIdeal : Cert.Pre_clip_idle_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_clip_idle_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clip_idle_ReferenceIdeal [hPre_clip_idle_ReferenceIdeal : Cert.Pre_clip_idle_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clip_idle_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_clip_idle_KernelIdeal [hKernelIdeal : Cert.KernelIdeal.Facts] [hPre_clip_idle_KernelIdeal : Cert.Pre_clip_idle_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clip_idle_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_clip_idle_ReferenceIdeal [hReferenceIdeal : Cert.ReferenceIdeal.Facts] [hPre_clip_idle_ReferenceIdeal : Cert.Pre_clip_idle_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clip_idle_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_ReferenceIdeal_pre_clip_idle_KernelIdeal [hKernelIdeal : Cert.KernelIdeal.Facts] [hReferenceIdeal : Cert.ReferenceIdeal.Facts] [hPre_clip_idle_KernelIdeal : Cert.Pre_clip_idle_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clip_idle_KernelIdeal m →
    (∀ c : Dev Cert.KernelIdeal.nD,
      m ((c.tc : Thread Cert.KernelIdeal.nD Cert.KernelIdeal.τ).loc Cert.KernelIdeal.main_arg0) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 32]⟩ ⟨2, ![1024, 1024]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![32, 1024]⟩ ⟨2, ![1024, 1024]⟩ 0 32 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = Layout.block ⟨2, ![1024, 32]⟩ ⟨2, ![1024, 1024]⟩ 1 32 c (m' (((0 : Dev Cert.UnclippedIdeal.nD).tc : Thread Cert.UnclippedIdeal.nD Cert.UnclippedIdeal.τ).loc Cert.UnclippedIdeal.main_arg1))) →
    ∃ (v0 : Buf (Elt Ideal) (((0 : Dev Cert.UnclippedIdeal.nD).tc : Thread Cert.UnclippedIdeal.nD Cert.UnclippedIdeal.τ).loc Cert.UnclippedIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 32]⟩ ⟨2, ![1024, 1024]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v5) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_clip_idle_KernelIdeal : Cert.Pre_clip_idle_KernelIdeal.Facts) (hPre_clip_idle_ReferenceIdeal : Cert.Pre_clip_idle_ReferenceIdeal.Facts),
    quiescent_Kernel (hKernel := hKernel)
    ∧ quiescent_KernelIdeal (hKernelIdeal := hKernelIdeal)
    ∧ quiescent_KernelIdeal_pre_clip_idle_KernelIdeal (hKernelIdeal := hKernelIdeal) (hPre_clip_idle_KernelIdeal := hPre_clip_idle_KernelIdeal)
    ∧ quiescent_ReferenceIdeal (hReferenceIdeal := hReferenceIdeal)
    ∧ quiescent_ReferenceIdeal_pre_clip_idle_ReferenceIdeal (hReferenceIdeal := hReferenceIdeal) (hPre_clip_idle_ReferenceIdeal := hPre_clip_idle_ReferenceIdeal)
    ∧ quiescent_UnclippedIdeal (hUnclippedIdeal := hUnclippedIdeal)
    ∧ preserves_Kernel_KernelIdeal
    ∧ algebraic_KernelIdeal_ReferenceIdeal_pre_clip_idle_KernelIdeal (hKernelIdeal := hKernelIdeal) (hReferenceIdeal := hReferenceIdeal) (hPre_clip_idle_KernelIdeal := hPre_clip_idle_KernelIdeal)
    ∧ algebraic_KernelIdeal_UnclippedIdeal (hKernelIdeal := hKernelIdeal) (hUnclippedIdeal := hUnclippedIdeal)
-- ==== Pre_clip_idle_KernelIdeal.lean ====
abbrev S32x1024 : Shape := ⟨2, ![32, 1024]⟩
abbrev S1024x32 : Shape := ⟨2, ![1024, 32]⟩
abbrev S_ : Shape := ⟨0, ![]⟩
abbrev S32 : Shape := ⟨1, ![32]⟩

class Facts : Prop where
  reducesTo_S32x1024_S32_d1 : S32x1024.ReducesTo [1] S32
  h_S_ : 0 < S_.numel
  bcast_S_S32 : S_.BroadcastsInDim S32 (![] : Fin 0 → Fin S32.rank)
  reducesTo_S1024x32_S32_d0 : S1024x32.ReducesTo [0] S32

variable [Facts]

def fn {F : FTy → Type} [FloatOps F] (main_arg0 : FVec F S32x1024 .f32) (main_arg1 : FVec F S1024x32 .f32) : IVec S32 1 :=
  let main_v0 : FVec F S32x1024 .f32 := mulf main_arg0 main_arg0
  let main_cst : FVec F S_ .f32 := constant S_ .f32 0x00000000#32
  let main_v1 : FVec F S32 .f32 := (fun x v => Host.reduceAdd x v reducesTo_S32x1024_S32_d1 h_S_) main_v0 main_cst
  let main_cst_0 : FVec F S_ .f32 := constant S_ .f32 0x45160000#32
  let main_v2 : FVec F S32 .f32 := broadcastInDim S32 ![] bcast_S_S32 main_cst_0
  let main_v3 : IVec S32 1 := cmpf .ole main_v1 main_v2
  let main_v4 : FVec F S1024x32 .f32 := mulf main_arg1 main_arg1
  let main_cst_1 : FVec F S_ .f32 := constant S_ .f32 0x00000000#32
  let main_v5 : FVec F S32 .f32 := (fun x v => Host.reduceAdd x v reducesTo_S1024x32_S32_d0 h_S_) main_v4 main_cst_1
  let main_cst_2 : FVec F S_ .f32 := constant S_ .f32 0x3FC00000#32
  let main_v6 : FVec F S32 .f32 := broadcastInDim S32 ![] bcast_S_S32 main_cst_2
  let main_v7 : IVec S32 1 := cmpf .ole main_v5 main_v6
  let main_v8 : IVec S32 1 := andi main_v3 main_v7
  main_v8
-- ==== Pre_clip_idle_ReferenceIdeal.lean ====
abbrev S1024x1024 : Shape := ⟨2, ![1024, 1024]⟩
abbrev S_ : Shape := ⟨0, ![]⟩
abbrev S1024 : Shape := ⟨1, ![1024]⟩

class Facts : Prop where
  reducesTo_S1024x1024_S1024_d1 : S1024x1024.ReducesTo [1] S1024
  h_S_ : 0 < S_.numel
  bcast_S_S1024 : S_.BroadcastsInDim S1024 (![] : Fin 0 → Fin S1024.rank)
  reducesTo_S1024x1024_S1024_d0 : S1024x1024.ReducesTo [0] S1024

variable [Facts]

def fn {F : FTy → Type} [FloatOps F] (main_arg0 : FVec F S1024x1024 .f32) (main_arg1 : FVec F S1024x1024 .f32) : IVec S1024 1 :=
  let main_v0 : FVec F S1024x1024 .f32 := mulf main_arg0 main_arg0
  let main_cst : FVec F S_ .f32 := constant S_ .f32 0x00000000#32
  let main_v1 : FVec F S1024 .f32 := (fun x v => Host.reduceAdd x v reducesTo_S1024x1024_S1024_d1 h_S_) main_v0 main_cst
  let main_cst_0 : FVec F S_ .f32 := constant S_ .f32 0x45160000#32
  let main_v2 : FVec F S1024 .f32 := broadcastInDim S1024 ![] bcast_S_S1024 main_cst_0
  let main_v3 : IVec S1024 1 := cmpf .ole main_v1 main_v2
  let main_v4 : FVec F S1024x1024 .f32 := mulf main_arg1 main_arg1
  let main_cst_1 : FVec F S_ .f32 := constant S_ .f32 0x00000000#32
  let main_v5 : FVec F S1024 .f32 := (fun x v => Host.reduceAdd x v reducesTo_S1024x1024_S1024_d0 h_S_) main_v4 main_cst_1
  let main_cst_2 : FVec F S_ .f32 := constant S_ .f32 0x3FC00000#32
  let main_v6 : FVec F S1024 .f32 := broadcastInDim S1024 ![] bcast_S_S1024 main_cst_2
  let main_v7 : IVec S1024 1 := cmpf .ole main_v5 main_v6
  let main_v8 : IVec S1024 1 := andi main_v3 main_v7
  main_v8
-- ==== Kernel.lean ====
abbrev S32x1024 : Shape := ⟨2, ![32, 1024]⟩
abbrev S1024x32 : Shape := ⟨2, ![1024, 32]⟩
abbrev S1024x1024 : Shape := ⟨2, ![1024, 1024]⟩
abbrev S3 : Shape := ⟨1, ![3]⟩
abbrev S12 : Shape := ⟨1, ![12]⟩
abbrev S16 : Shape := ⟨1, ![16]⟩
abbrev S31 : Shape := ⟨1, ![31]⟩
abbrev S_ : Shape := ⟨0, ![]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S32x1024, .f32⟩
  | .hbm, ⟨1, _⟩ => ⟨S1024x32, .f32⟩
  | .hbm, ⟨2, _⟩ => ⟨S1024x32, .f32⟩
  | .local _ .vmem, ⟨0, _⟩ => ⟨S32x1024, .f32⟩
  | .local _ .vmem, ⟨1, _⟩ => ⟨S1024x32, .f32⟩
  | .local _ .vmem, ⟨2, _⟩ => ⟨S1024x32, .f32⟩
  | .local _ .vmem, ⟨3, _⟩ => ⟨S1024x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_4 : BitVec 32 := 1#32
  let v12 : BitVec 32 := Scalar.addi v3 c1_i32_4
  let c4_i32 : BitVec 32 := 4#32
  let v13 : BitVec 32 := Scalar.remsi v12 c4_i32
  let c8_i32_5 : BitVec 32 := 8#32
  let v14 : BitVec 32 := Scalar.muli v13 c8_i32_5
  let c8_i32_0 : BitVec 32 := 8#32
  let v4 : BitVec 32 := Scalar.remsi v2 c8_i32_0
  let c2_i32 : BitVec 32 := 2#32
  let v5 : BitVec 32 := Scalar.divsi v4 c2_i32
  let c2_i32_6 : BitVec 32 := 2#32
  let v15 : BitVec 32 := Scalar.muli v5 c2_i32_6
  let v16 : BitVec 32 := Scalar.addi v14 v15
  let c2_i32_7 : BitVec 32 := 2#32
  let v17 : BitVec 32 := Scalar.remsi v5 c2_i32_7
  let c0_i32_8 : BitVec 32 := 0#32
  let v18 : BitVec 1 := Scalar.cmpi .eq v17 c0_i32_8
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let c1_i32_9 : BitVec 32 := 1#32
  let v19 : BitVec 32 := Scalar.subi c1_i32_9 v10
  let v20 : BitVec 32 := Scalar.select v18 v10 v19
  let v21 : BitVec 32 := Scalar.addi v16 v20
  let c1_i32_11 : BitVec 32 := 1#32
  let v22 : BitVec 32 := Scalar.muli v21 c1_i32_11
  let v23 : BitVec 32 := Scalar.addi c0_i32_12 v22
  v23.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_13 : BitVec 32 := 2#32
  let v24 : BitVec 32 := Scalar.addi v3 c2_i32_13
  let c4_i32_14 : BitVec 32 := 4#32
  let v25 : BitVec 32 := Scalar.remsi v24 c4_i32_14
  let c8_i32_15 : BitVec 32 := 8#32
  let v26 : BitVec 32 := Scalar.muli v25 c8_i32_15
  let c8_i32_0 : BitVec 32 := 8#32
  let v4 : BitVec 32 := Scalar.remsi v2 c8_i32_0
  let c2_i32 : BitVec 32 := 2#32
  let v5 : BitVec 32 := Scalar.divsi v4 c2_i32
  let c2_i32_16 : BitVec 32 := 2#32
  let v27 : BitVec 32 := Scalar.muli v5 c2_i32_16
  let v28 : BitVec 32 := Scalar.addi v26 v27
  let c2_i32_17 : BitVec 32 := 2#32
  let v29 : BitVec 32 := Scalar.remsi v5 c2_i32_17
  let c0_i32_18 : BitVec 32 := 0#32
  let v30 : BitVec 1 := Scalar.cmpi .eq v29 c0_i32_18
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let c1_i32_19 : BitVec 32 := 1#32
  let v31 : BitVec 32 := Scalar.subi c1_i32_19 v10
  let v32 : BitVec 32 := Scalar.select v30 v10 v31
  let v33 : BitVec 32 := Scalar.addi v28 v32
  let c1_i32_21 : BitVec 32 := 1#32
  let v34 : BitVec 32 := Scalar.muli v33 c1_i32_21
  let v35 : BitVec 32 := Scalar.addi c0_i32_22 v34
  v35.toNat
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32 : BitVec 32 := 3#32
  let v36 : BitVec 32 := Scalar.addi v3 c3_i32
  let c4_i32_23 : BitVec 32 := 4#32
  let v37 : BitVec 32 := Scalar.remsi v36 c4_i32_23
  let c8_i32_24 : BitVec 32 := 8#32
  let v38 : BitVec 32 := Scalar.muli v37 c8_i32_24
  let c8_i32_0 : BitVec 32 := 8#32
  let v4 : BitVec 32 := Scalar.remsi v2 c8_i32_0
  let c2_i32 : BitVec 32 := 2#32
  let v5 : BitVec 32 := Scalar.divsi v4 c2_i32
  let c2_i32_25 : BitVec 32 := 2#32
  let v39 : BitVec 32 := Scalar.muli v5 c2_i32_25
  let v40 : BitVec 32 := Scalar.addi v38 v39
  let c2_i32_26 : BitVec 32 := 2#32
  let v41 : BitVec 32 := Scalar.remsi v5 c2_i32_26
  let c0_i32_27 : BitVec 32 := 0#32
  let v42 : BitVec 1 := Scalar.cmpi .eq v41 c0_i32_27
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let c1_i32_28 : BitVec 32 := 1#32
  let v43 : BitVec 32 := Scalar.subi c1_i32_28 v10
  let v44 : BitVec 32 := Scalar.select v42 v10 v43
  let v45 : BitVec 32 := Scalar.addi v40 v44
  let c1_i32_30 : BitVec 32 := 1#32
  let v46 : BitVec 32 := Scalar.muli v45 c1_i32_30
  let v47 : BitVec 32 := Scalar.addi c0_i32_31 v46
  v47.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v50 : BitVec 32 := Scalar.muli v3 c8_i32_34
  let c8_i32_0 : BitVec 32 := 8#32
  let v4 : BitVec 32 := Scalar.remsi v2 c8_i32_0
  let c2_i32 : BitVec 32 := 2#32
  let v5 : BitVec 32 := Scalar.divsi v4 c2_i32
  let c1_i32_32 : BitVec 32 := 1#32
  let v48 : BitVec 32 := Scalar.addi v5 c1_i32_32
  let c4_i32_33 : BitVec 32 := 4#32
  let v49 : BitVec 32 := Scalar.remsi v48 c4_i32_33
  let c2_i32_35 : BitVec 32 := 2#32
  let v51 : BitVec 32 := Scalar.muli v49 c2_i32_35
  let v52 : BitVec 32 := Scalar.addi v50 v51
  let c2_i32_36 : BitVec 32 := 2#32
  let v53 : BitVec 32 := Scalar.remsi v49 c2_i32_36
  let c0_i32_37 : BitVec 32 := 0#32
  let v54 : BitVec 1 := Scalar.cmpi .eq v53 c0_i32_37
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let c1_i32_38 : BitVec 32 := 1#32
  let v55 : BitVec 32 := Scalar.subi c1_i32_38 v10
  let v56 : BitVec 32 := Scalar.select v54 v10 v55
  let v57 : BitVec 32 := Scalar.addi v52 v56
  let c1_i32_40 : BitVec 32 := 1#32
  let v58 : BitVec 32 := Scalar.muli v57 c1_i32_40
  let v59 : BitVec 32 := Scalar.addi c0_i32_41 v58
  v59.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_44 : BitVec 32 := 8#32
  let v62 : BitVec 32 := Scalar.muli v3 c8_i32_44
  let c8_i32_0 : BitVec 32 := 8#32
  let v4 : BitVec 32 := Scalar.remsi v2 c8_i32_0
  let c2_i32 : BitVec 32 := 2#32
  let v5 : BitVec 32 := Scalar.divsi v4 c2_i32
  let c2_i32_42 : BitVec 32 := 2#32
  let v60 : BitVec 32 := Scalar.addi v5 c2_i32_42
  let c4_i32_43 : BitVec 32 := 4#32
  let v61 : BitVec 32 := Scalar.remsi v60 c4_i32_43
  let c2_i32_45 : BitVec 32 := 2#32
  let v63 : BitVec 32 := Scalar.muli v61 c2_i32_45
  let v64 : BitVec 32 := Scalar.addi v62 v63
  let c2_i32_46 : BitVec 32 := 2#32
  let v65 : BitVec 32 := Scalar.remsi v61 c2_i32_46
  let c0_i32_47 : BitVec 32 := 0#32
  let v66 : BitVec 1 := Scalar.cmpi .eq v65 c0_i32_47
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let c1_i32_48 : BitVec 32 := 1#32
  let v67 : BitVec 32 := Scalar.subi c1_i32_48 v10
  let v68 : BitVec 32 := Scalar.select v66 v10 v67
  let v69 : BitVec 32 := Scalar.addi v64 v68
  let c1_i32_50 : BitVec 32 := 1#32
  let v70 : BitVec 32 := Scalar.muli v69 c1_i32_50
  let v71 : BitVec 32 := Scalar.addi c0_i32_51 v70
  v71.toNat
def k0_dev6 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_54 : BitVec 32 := 8#32
  let v74 : BitVec 32 := Scalar.muli v3 c8_i32_54
  let c8_i32_0 : BitVec 32 := 8#32
  let v4 : BitVec 32 := Scalar.remsi v2 c8_i32_0
  let c2_i32 : BitVec 32 := 2#32
  let v5 : BitVec 32 := Scalar.divsi v4 c2_i32
  let c3_i32_52 : BitVec 32 := 3#32
  let v72 : BitVec 32 := Scalar.addi v5 c3_i32_52
  let c4_i32_53 : BitVec 32 := 4#32
  let v73 : BitVec 32 := Scalar.remsi v72 c4_i32_53
  let c2_i32_55 : BitVec 32 := 2#32
  let v75 : BitVec 32 := Scalar.muli v73 c2_i32_55
  let v76 : BitVec 32 := Scalar.addi v74 v75
  let c2_i32_56 : BitVec 32 := 2#32
  let v77 : BitVec 32 := Scalar.remsi v73 c2_i32_56
  let c0_i32_57 : BitVec 32 := 0#32
  let v78 : BitVec 1 := Scalar.cmpi .eq v77 c0_i32_57
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let c1_i32_58 : BitVec 32 := 1#32
  let v79 : BitVec 32 := Scalar.subi c1_i32_58 v10
  let v80 : BitVec 32 := Scalar.select v78 v10 v79
  let v81 : BitVec 32 := Scalar.addi v76 v80
  let c1_i32_60 : BitVec 32 := 1#32
  let v82 : BitVec 32 := Scalar.muli v81 c1_i32_60
  let v83 : BitVec 32 := Scalar.addi c0_i32_61 v82
  v83.toNat
def k0_dev7 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_63 : BitVec 32 := 8#32
  let v85 : BitVec 32 := Scalar.muli v3 c8_i32_63
  let c8_i32_0 : BitVec 32 := 8#32
  let v4 : BitVec 32 := Scalar.remsi v2 c8_i32_0
  let c2_i32 : BitVec 32 := 2#32
  let v5 : BitVec 32 := Scalar.divsi v4 c2_i32
  let c2_i32_64 : BitVec 32 := 2#32
  let v86 : BitVec 32 := Scalar.muli v5 c2_i32_64
  let v87 : BitVec 32 := Scalar.addi v85 v86
  let c2_i32_65 : BitVec 32 := 2#32
  let v88 : BitVec 32 := Scalar.remsi v5 c2_i32_65
  let c0_i32_66 : BitVec 32 := 0#32
  let v89 : BitVec 1 := Scalar.cmpi .eq v88 c0_i32_66
  let c1_i32_62 : BitVec 32 := 1#32
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let v84 : BitVec 32 := Scalar.subi c1_i32_62 v10
  let c1_i32_67 : BitVec 32 := 1#32
  let v90 : BitVec 32 := Scalar.subi c1_i32_67 v84
  let v91 : BitVec 32 := Scalar.select v89 v84 v90
  let v92 : BitVec 32 := Scalar.addi v87 v91
  let c1_i32_69 : BitVec 32 := 1#32
  let v93 : BitVec 32 := Scalar.muli v92 c1_i32_69
  let v94 : BitVec 32 := Scalar.addi c0_i32_70 v93
  v94.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_72 : BitVec 32 := 32#32
  let v97 : BitVec 32 := Scalar.muli v2 c32_i32_72
  let v98 : Index := Scalar.indexCast v97
  let c0_73 : Index := 0#32
  ![v98.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_82 : BitVec 32 := 32#32
  let v113 : BitVec 32 := Scalar.muli v2 c32_i32_82
  let c0_i32_87 : BitVec 32 := 0#32
  ![v113.toNat, 0]
def k0_dev8 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_74 : BitVec 32 := 1#32
  let v102 : BitVec 32 := Scalar.addi v3 c1_i32_74
  let c4_i32_75 : BitVec 32 := 4#32
  let v103 : BitVec 32 := Scalar.remsi v102 c4_i32_75
  let c8_i32_76 : BitVec 32 := 8#32
  let v104 : BitVec 32 := Scalar.muli v103 c8_i32_76
  let c8_i32_0 : BitVec 32 := 8#32
  let v4 : BitVec 32 := Scalar.remsi v2 c8_i32_0
  let c2_i32 : BitVec 32 := 2#32
  let v5 : BitVec 32 := Scalar.divsi v4 c2_i32
  let c2_i32_77 : BitVec 32 := 2#32
  let v105 : BitVec 32 := Scalar.muli v5 c2_i32_77
  let v106 : BitVec 32 := Scalar.addi v104 v105
  let c2_i32_78 : BitVec 32 := 2#32
  let v107 : BitVec 32 := Scalar.remsi v5 c2_i32_78
  let c0_i32_79 : BitVec 32 := 0#32
  let v108 : BitVec 1 := Scalar.cmpi .eq v107 c0_i32_79
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let c1_i32_80 : BitVec 32 := 1#32
  let v109 : BitVec 32 := Scalar.subi c1_i32_80 v10
  let v110 : BitVec 32 := Scalar.select v108 v10 v109
  let v111 : BitVec 32 := Scalar.addi v106 v110
  let c1_i32_85 : BitVec 32 := 1#32
  let v114 : BitVec 32 := Scalar.muli v111 c1_i32_85
  let v115 : BitVec 32 := Scalar.addi c0_i32_86 v114
  v115.toNat
def k0_dev9 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_89 : BitVec 32 := 2#32
  let v122 : BitVec 32 := Scalar.addi v3 c2_i32_89
  let c4_i32_90 : BitVec 32 := 4#32
  let v123 : BitVec 32 := Scalar.remsi v122 c4_i32_90
  let c8_i32_91 : BitVec 32 := 8#32
  let v124 : BitVec 32 := Scalar.muli v123 c8_i32_91
  let c8_i32_0 : BitVec 32 := 8#32
  let v4 : BitVec 32 := Scalar.remsi v2 c8_i32_0
  let c2_i32 : BitVec 32 := 2#32
  let v5 : BitVec 32 := Scalar.divsi v4 c2_i32
  let c2_i32_92 : BitVec 32 := 2#32
  let v125 : BitVec 32 := Scalar.muli v5 c2_i32_92
  let v126 : BitVec 32 := Scalar.addi v124 v125
  let c2_i32_93 : BitVec 32 := 2#32
  let v127 : BitVec 32 := Scalar.remsi v5 c2_i32_93
  let c0_i32_94 : BitVec 32 := 0#32
  let v128 : BitVec 1 := Scalar.cmpi .eq v127 c0_i32_94
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let c1_i32_95 : BitVec 32 := 1#32
  let v129 : BitVec 32 := Scalar.subi c1_i32_95 v10
  let v130 : BitVec 32 := Scalar.select v128 v10 v129
  let v131 : BitVec 32 := Scalar.addi v126 v130
  let c1_i32_100 : BitVec 32 := 1#32
  let v134 : BitVec 32 := Scalar.muli v131 c1_i32_100
  let v135 : BitVec 32 := Scalar.addi c0_i32_101 v134
  v135.toNat
def k0_dev10 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_104 : BitVec 32 := 3#32
  let v142 : BitVec 32 := Scalar.addi v3 c3_i32_104
  let c4_i32_105 : BitVec 32 := 4#32
  let v143 : BitVec 32 := Scalar.remsi v142 c4_i32_105
  let c8_i32_106 : BitVec 32 := 8#32
  let v144 : BitVec 32 := Scalar.muli v143 c8_i32_106
  let c8_i32_0 : BitVec 32 := 8#32
  let v4 : BitVec 32 := Scalar.remsi v2 c8_i32_0
  let c2_i32 : BitVec 32 := 2#32
  let v5 : BitVec 32 := Scalar.divsi v4 c2_i32
  let c2_i32_107 : BitVec 32 := 2#32
  let v145 : BitVec 32 := Scalar.muli v5 c2_i32_107
  let v146 : BitVec 32 := Scalar.addi v144 v145
  let c2_i32_108 : BitVec 32 := 2#32
  let v147 : BitVec 32 := Scalar.remsi v5 c2_i32_108
  let c0_i32_109 : BitVec 32 := 0#32
  let v148 : BitVec 1 := Scalar.cmpi .eq v147 c0_i32_109
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let c1_i32_110 : BitVec 32 := 1#32
  let v149 : BitVec 32 := Scalar.subi c1_i32_110 v10
  let v150 : BitVec 32 := Scalar.select v148 v10 v149
  let v151 : BitVec 32 := Scalar.addi v146 v150
  let c1_i32_115 : BitVec 32 := 1#32
  let v154 : BitVec 32 := Scalar.muli v151 c1_i32_115
  let v155 : BitVec 32 := Scalar.addi c0_i32_116 v154
  v155.toNat
def k0_dev11 (d0 : Dev nD) : Nat :=
  let c0_i32_131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_121 : BitVec 32 := 8#32
  let v164 : BitVec 32 := Scalar.muli v3 c8_i32_121
  let c8_i32_0 : BitVec 32 := 8#32
  let v4 : BitVec 32 := Scalar.remsi v2 c8_i32_0
  let c2_i32 : BitVec 32 := 2#32
  let v5 : BitVec 32 := Scalar.divsi v4 c2_i32
  let c1_i32_119 : BitVec 32 := 1#32
  let v162 : BitVec 32 := Scalar.addi v5 c1_i32_119
  let c4_i32_120 : BitVec 32 := 4#32
  let v163 : BitVec 32 := Scalar.remsi v162 c4_i32_120
  let c2_i32_122 : BitVec 32 := 2#32
  let v165 : BitVec 32 := Scalar.muli v163 c2_i32_122
  let v166 : BitVec 32 := Scalar.addi v164 v165
  let c2_i32_123 : BitVec 32 := 2#32
  let v167 : BitVec 32 := Scalar.remsi v163 c2_i32_123
  let c0_i32_124 : BitVec 32 := 0#32
  let v168 : BitVec 1 := Scalar.cmpi .eq v167 c0_i32_124
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let c1_i32_125 : BitVec 32 := 1#32
  let v169 : BitVec 32 := Scalar.subi c1_i32_125 v10
  let v170 : BitVec 32 := Scalar.select v168 v10 v169
  let v171 : BitVec 32 := Scalar.addi v166 v170
  let c1_i32_130 : BitVec 32 := 1#32
  let v174 : BitVec 32 := Scalar.muli v171 c1_i32_130
  let v175 : BitVec 32 := Scalar.addi c0_i32_131 v174
  v175.toNat
def k0_dev12 (d0 : Dev nD) : Nat :=
  let c0_i32_146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_136 : BitVec 32 := 8#32
  let v184 : BitVec 32 := Scalar.muli v3 c8_i32_136
  let c8_i32_0 : BitVec 32 := 8#32
  let v4 : BitVec 32 := Scalar.remsi v2 c8_i32_0
  let c2_i32 : BitVec 32 := 2#32
  let v5 : BitVec 32 := Scalar.divsi v4 c2_i32
  let c2_i32_134 : BitVec 32 := 2#32
  let v182 : BitVec 32 := Scalar.addi v5 c2_i32_134
  let c4_i32_135 : BitVec 32 := 4#32
  let v183 : BitVec 32 := Scalar.remsi v182 c4_i32_135
  let c2_i32_137 : BitVec 32 := 2#32
  let v185 : BitVec 32 := Scalar.muli v183 c2_i32_137
  let v186 : BitVec 32 := Scalar.addi v184 v185
  let c2_i32_138 : BitVec 32 := 2#32
  let v187 : BitVec 32 := Scalar.remsi v183 c2_i32_138
  let c0_i32_139 : BitVec 32 := 0#32
  let v188 : BitVec 1 := Scalar.cmpi .eq v187 c0_i32_139
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let c1_i32_140 : BitVec 32 := 1#32
  let v189 : BitVec 32 := Scalar.subi c1_i32_140 v10
  let v190 : BitVec 32 := Scalar.select v188 v10 v189
  let v191 : BitVec 32 := Scalar.addi v186 v190
  let c1_i32_145 : BitVec 32 := 1#32
  let v194 : BitVec 32 := Scalar.muli v191 c1_i32_145
  let v195 : BitVec 32 := Scalar.addi c0_i32_146 v194
  v195.toNat
def k0_dev13 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_151 : BitVec 32 := 8#32
  let v204 : BitVec 32 := Scalar.muli v3 c8_i32_151
  let c8_i32_0 : BitVec 32 := 8#32
  let v4 : BitVec 32 := Scalar.remsi v2 c8_i32_0
  let c2_i32 : BitVec 32 := 2#32
  let v5 : BitVec 32 := Scalar.divsi v4 c2_i32
  let c3_i32_149 : BitVec 32 := 3#32
  let v202 : BitVec 32 := Scalar.addi v5 c3_i32_149
  let c4_i32_150 : BitVec 32 := 4#32
  let v203 : BitVec 32 := Scalar.remsi v202 c4_i32_150
  let c2_i32_152 : BitVec 32 := 2#32
  let v205 : BitVec 32 := Scalar.muli v203 c2_i32_152
  let v206 : BitVec 32 := Scalar.addi v204 v205
  let c2_i32_153 : BitVec 32 := 2#32
  let v207 : BitVec 32 := Scalar.remsi v203 c2_i32_153
  let c0_i32_154 : BitVec 32 := 0#32
  let v208 : BitVec 1 := Scalar.cmpi .eq v207 c0_i32_154
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let c1_i32_155 : BitVec 32 := 1#32
  let v209 : BitVec 32 := Scalar.subi c1_i32_155 v10
  let v210 : BitVec 32 := Scalar.select v208 v10 v209
  let v211 : BitVec 32 := Scalar.addi v206 v210
  let c1_i32_159 : BitVec 32 := 1#32
  let v214 : BitVec 32 := Scalar.muli v211 c1_i32_159
  let v215 : BitVec 32 := Scalar.addi c0_i32_160 v214
  v215.toNat
def k0_dev14 (d0 : Dev nD) : Nat :=
  let c0_i32_173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_164 : BitVec 32 := 8#32
  let v223 : BitVec 32 := Scalar.muli v3 c8_i32_164
  let c8_i32_0 : BitVec 32 := 8#32
  let v4 : BitVec 32 := Scalar.remsi v2 c8_i32_0
  let c2_i32 : BitVec 32 := 2#32
  let v5 : BitVec 32 := Scalar.divsi v4 c2_i32
  let c2_i32_165 : BitVec 32 := 2#32
  let v224 : BitVec 32 := Scalar.muli v5 c2_i32_165
  let v225 : BitVec 32 := Scalar.addi v223 v224
  let c2_i32_166 : BitVec 32 := 2#32
  let v226 : BitVec 32 := Scalar.remsi v5 c2_i32_166
  let c0_i32_167 : BitVec 32 := 0#32
  let v227 : BitVec 1 := Scalar.cmpi .eq v226 c0_i32_167
  let c1_i32_163 : BitVec 32 := 1#32
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let v222 : BitVec 32 := Scalar.subi c1_i32_163 v10
  let c1_i32_168 : BitVec 32 := 1#32
  let v228 : BitVec 32 := Scalar.subi c1_i32_168 v222
  let v229 : BitVec 32 := Scalar.select v227 v222 v228
  let v230 : BitVec 32 := Scalar.addi v225 v229
  let c1_i32_172 : BitVec 32 := 1#32
  let v233 : BitVec 32 := Scalar.muli v230 c1_i32_172
  let v234 : BitVec 32 := Scalar.addi c0_i32_173 v233
  v234.toNat
def k0_off3 (d0 : Dev nD) (c1_i32_176 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v241 : BitVec 32 := Scalar.addi v3 c1_i32_176
  let c4_i32_177 : BitVec 32 := 4#32
  let v242 : BitVec 32 := Scalar.remsi v241 c4_i32_177
  let c8_i32_178 : BitVec 32 := 8#32
  let v243 : BitVec 32 := Scalar.muli v242 c8_i32_178
  let c8_i32_0 : BitVec 32 := 8#32
  let v4 : BitVec 32 := Scalar.remsi v2 c8_i32_0
  let c2_i32 : BitVec 32 := 2#32
  let v5 : BitVec 32 := Scalar.divsi v4 c2_i32
  let c2_i32_179 : BitVec 32 := 2#32
  let v244 : BitVec 32 := Scalar.muli v5 c2_i32_179
  let v245 : BitVec 32 := Scalar.addi v243 v244
  let c2_i32_180 : BitVec 32 := 2#32
  let v246 : BitVec 32 := Scalar.remsi v5 c2_i32_180
  let c0_i32_181 : BitVec 32 := 0#32
  let v247 : BitVec 1 := Scalar.cmpi .eq v246 c0_i32_181
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let c1_i32_182 : BitVec 32 := 1#32
  let v248 : BitVec 32 := Scalar.subi c1_i32_182 v10
  let v249 : BitVec 32 := Scalar.select v247 v10 v248
  let v250 : BitVec 32 := Scalar.addi v245 v249
  let c32_i32_184 : BitVec 32 := 32#32
  let v252 : BitVec 32 := Scalar.muli v250 c32_i32_184
  let c0_i32_189 : BitVec 32 := 0#32
  ![v252.toNat, 0]
def k0_dev15 (d0 : Dev nD) : Nat :=
  let c0_i32_202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_193 : BitVec 32 := 8#32
  let v261 : BitVec 32 := Scalar.muli v3 c8_i32_193
  let c8_i32_0 : BitVec 32 := 8#32
  let v4 : BitVec 32 := Scalar.remsi v2 c8_i32_0
  let c2_i32 : BitVec 32 := 2#32
  let v5 : BitVec 32 := Scalar.divsi v4 c2_i32
  let c1_i32_191 : BitVec 32 := 1#32
  let v259 : BitVec 32 := Scalar.addi v5 c1_i32_191
  let c4_i32_192 : BitVec 32 := 4#32
  let v260 : BitVec 32 := Scalar.remsi v259 c4_i32_192
  let c2_i32_194 : BitVec 32 := 2#32
  let v262 : BitVec 32 := Scalar.muli v260 c2_i32_194
  let v263 : BitVec 32 := Scalar.addi v261 v262
  let c2_i32_195 : BitVec 32 := 2#32
  let v264 : BitVec 32 := Scalar.remsi v260 c2_i32_195
  let c0_i32_196 : BitVec 32 := 0#32
  let v265 : BitVec 1 := Scalar.cmpi .eq v264 c0_i32_196
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let c1_i32_197 : BitVec 32 := 1#32
  let v266 : BitVec 32 := Scalar.subi c1_i32_197 v10
  let v267 : BitVec 32 := Scalar.select v265 v10 v266
  let v268 : BitVec 32 := Scalar.addi v263 v267
  let c1_i32_201 : BitVec 32 := 1#32
  let v271 : BitVec 32 := Scalar.muli v268 c1_i32_201
  let v272 : BitVec 32 := Scalar.addi c0_i32_202 v271
  v272.toNat
def k0_dev16 (d0 : Dev nD) : Nat :=
  let c0_i32_217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_207 : BitVec 32 := 8#32
  let v281 : BitVec 32 := Scalar.muli v3 c8_i32_207
  let c8_i32_0 : BitVec 32 := 8#32
  let v4 : BitVec 32 := Scalar.remsi v2 c8_i32_0
  let c2_i32 : BitVec 32 := 2#32
  let v5 : BitVec 32 := Scalar.divsi v4 c2_i32
  let c2_i32_205 : BitVec 32 := 2#32
  let v279 : BitVec 32 := Scalar.addi v5 c2_i32_205
  let c4_i32_206 : BitVec 32 := 4#32
  let v280 : BitVec 32 := Scalar.remsi v279 c4_i32_206
  let c2_i32_208 : BitVec 32 := 2#32
  let v282 : BitVec 32 := Scalar.muli v280 c2_i32_208
  let v283 : BitVec 32 := Scalar.addi v281 v282
  let c2_i32_209 : BitVec 32 := 2#32
  let v284 : BitVec 32 := Scalar.remsi v280 c2_i32_209
  let c0_i32_210 : BitVec 32 := 0#32
  let v285 : BitVec 1 := Scalar.cmpi .eq v284 c0_i32_210
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let c1_i32_211 : BitVec 32 := 1#32
  let v286 : BitVec 32 := Scalar.subi c1_i32_211 v10
  let v287 : BitVec 32 := Scalar.select v285 v10 v286
  let v288 : BitVec 32 := Scalar.addi v283 v287
  let c1_i32_216 : BitVec 32 := 1#32
  let v291 : BitVec 32 := Scalar.muli v288 c1_i32_216
  let v292 : BitVec 32 := Scalar.addi c0_i32_217 v291
  v292.toNat
def k0_dev17 (d0 : Dev nD) : Nat :=
  let c0_i32_232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_222 : BitVec 32 := 8#32
  let v301 : BitVec 32 := Scalar.muli v3 c8_i32_222
  let c8_i32_0 : BitVec 32 := 8#32
  let v4 : BitVec 32 := Scalar.remsi v2 c8_i32_0
  let c2_i32 : BitVec 32 := 2#32
  let v5 : BitVec 32 := Scalar.divsi v4 c2_i32
  let c3_i32_220 : BitVec 32 := 3#32
  let v299 : BitVec 32 := Scalar.addi v5 c3_i32_220
  let c4_i32_221 : BitVec 32 := 4#32
  let v300 : BitVec 32 := Scalar.remsi v299 c4_i32_221
  let c2_i32_223 : BitVec 32 := 2#32
  let v302 : BitVec 32 := Scalar.muli v300 c2_i32_223
  let v303 : BitVec 32 := Scalar.addi v301 v302
  let c2_i32_224 : BitVec 32 := 2#32
  let v304 : BitVec 32 := Scalar.remsi v300 c2_i32_224
  let c0_i32_225 : BitVec 32 := 0#32
  let v305 : BitVec 1 := Scalar.cmpi .eq v304 c0_i32_225
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let c1_i32_226 : BitVec 32 := 1#32
  let v306 : BitVec 32 := Scalar.subi c1_i32_226 v10
  let v307 : BitVec 32 := Scalar.select v305 v10 v306
  let v308 : BitVec 32 := Scalar.addi v303 v307
  let c1_i32_231 : BitVec 32 := 1#32
  let v311 : BitVec 32 := Scalar.muli v308 c1_i32_231
  let v312 : BitVec 32 := Scalar.addi c0_i32_232 v311
  v312.toNat
def k0_dev18 (d0 : Dev nD) : Nat :=
  let c0_i32_245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_236 : BitVec 32 := 8#32
  let v320 : BitVec 32 := Scalar.muli v3 c8_i32_236
  let c8_i32_0 : BitVec 32 := 8#32
  let v4 : BitVec 32 := Scalar.remsi v2 c8_i32_0
  let c2_i32 : BitVec 32 := 2#32
  let v5 : BitVec 32 := Scalar.divsi v4 c2_i32
  let c2_i32_237 : BitVec 32 := 2#32
  let v321 : BitVec 32 := Scalar.muli v5 c2_i32_237
  let v322 : BitVec 32 := Scalar.addi v320 v321
  let c2_i32_238 : BitVec 32 := 2#32
  let v323 : BitVec 32 := Scalar.remsi v5 c2_i32_238
  let c0_i32_239 : BitVec 32 := 0#32
  let v324 : BitVec 1 := Scalar.cmpi .eq v323 c0_i32_239
  let c1_i32_235 : BitVec 32 := 1#32
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let v319 : BitVec 32 := Scalar.subi c1_i32_235 v10
  let c1_i32_240 : BitVec 32 := 1#32
  let v325 : BitVec 32 := Scalar.subi c1_i32_240 v319
  let v326 : BitVec 32 := Scalar.select v324 v319 v325
  let v327 : BitVec 32 := Scalar.addi v322 v326
  let c1_i32_244 : BitVec 32 := 1#32
  let v330 : BitVec 32 := Scalar.muli v327 c1_i32_244
  let v331 : BitVec 32 := Scalar.addi c0_i32_245 v330
  v331.toNat
def k0_dev19 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_265 : BitVec 32 := 8#32
  let v358 : BitVec 32 := Scalar.muli v3 c8_i32_265
  let c8_i32_0 : BitVec 32 := 8#32
  let v4 : BitVec 32 := Scalar.remsi v2 c8_i32_0
  let c2_i32 : BitVec 32 := 2#32
  let v5 : BitVec 32 := Scalar.divsi v4 c2_i32
  let c1_i32_263 : BitVec 32 := 1#32
  let v356 : BitVec 32 := Scalar.addi v5 c1_i32_263
  let c4_i32_264 : BitVec 32 := 4#32
  let v357 : BitVec 32 := Scalar.remsi v356 c4_i32_264
  let c2_i32_266 : BitVec 32 := 2#32
  let v359 : BitVec 32 := Scalar.muli v357 c2_i32_266
  let v360 : BitVec 32 := Scalar.addi v358 v359
  let c2_i32_267 : BitVec 32 := 2#32
  let v361 : BitVec 32 := Scalar.remsi v357 c2_i32_267
  let c0_i32_268 : BitVec 32 := 0#32
  let v362 : BitVec 1 := Scalar.cmpi .eq v361 c0_i32_268
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let c1_i32_269 : BitVec 32 := 1#32
  let v363 : BitVec 32 := Scalar.subi c1_i32_269 v10
  let v364 : BitVec 32 := Scalar.select v362 v10 v363
  let v365 : BitVec 32 := Scalar.addi v360 v364
  let c1_i32_273 : BitVec 32 := 1#32
  let v368 : BitVec 32 := Scalar.muli v365 c1_i32_273
  let v369 : BitVec 32 := Scalar.addi c0_i32_274 v368
  v369.toNat
def k0_dev20 (d0 : Dev nD) : Nat :=
  let c0_i32_288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_279 : BitVec 32 := 8#32
  let v378 : BitVec 32 := Scalar.muli v3 c8_i32_279
  let c8_i32_0 : BitVec 32 := 8#32
  let v4 : BitVec 32 := Scalar.remsi v2 c8_i32_0
  let c2_i32 : BitVec 32 := 2#32
  let v5 : BitVec 32 := Scalar.divsi v4 c2_i32
  let c2_i32_277 : BitVec 32 := 2#32
  let v376 : BitVec 32 := Scalar.addi v5 c2_i32_277
  let c4_i32_278 : BitVec 32 := 4#32
  let v377 : BitVec 32 := Scalar.remsi v376 c4_i32_278
  let c2_i32_280 : BitVec 32 := 2#32
  let v379 : BitVec 32 := Scalar.muli v377 c2_i32_280
  let v380 : BitVec 32 := Scalar.addi v378 v379
  let c2_i32_281 : BitVec 32 := 2#32
  let v381 : BitVec 32 := Scalar.remsi v377 c2_i32_281
  let c0_i32_282 : BitVec 32 := 0#32
  let v382 : BitVec 1 := Scalar.cmpi .eq v381 c0_i32_282
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let c1_i32_283 : BitVec 32 := 1#32
  let v383 : BitVec 32 := Scalar.subi c1_i32_283 v10
  let v384 : BitVec 32 := Scalar.select v382 v10 v383
  let v385 : BitVec 32 := Scalar.addi v380 v384
  let c1_i32_287 : BitVec 32 := 1#32
  let v388 : BitVec 32 := Scalar.muli v385 c1_i32_287
  let v389 : BitVec 32 := Scalar.addi c0_i32_288 v388
  v389.toNat
def k0_dev21 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_293 : BitVec 32 := 8#32
  let v398 : BitVec 32 := Scalar.muli v3 c8_i32_293
  let c8_i32_0 : BitVec 32 := 8#32
  let v4 : BitVec 32 := Scalar.remsi v2 c8_i32_0
  let c2_i32 : BitVec 32 := 2#32
  let v5 : BitVec 32 := Scalar.divsi v4 c2_i32
  let c3_i32_291 : BitVec 32 := 3#32
  let v396 : BitVec 32 := Scalar.addi v5 c3_i32_291
  let c4_i32_292 : BitVec 32 := 4#32
  let v397 : BitVec 32 := Scalar.remsi v396 c4_i32_292
  let c2_i32_294 : BitVec 32 := 2#32
  let v399 : BitVec 32 := Scalar.muli v397 c2_i32_294
  let v400 : BitVec 32 := Scalar.addi v398 v399
  let c2_i32_295 : BitVec 32 := 2#32
  let v401 : BitVec 32 := Scalar.remsi v397 c2_i32_295
  let c0_i32_296 : BitVec 32 := 0#32
  let v402 : BitVec 1 := Scalar.cmpi .eq v401 c0_i32_296
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let c1_i32_297 : BitVec 32 := 1#32
  let v403 : BitVec 32 := Scalar.subi c1_i32_297 v10
  let v404 : BitVec 32 := Scalar.select v402 v10 v403
  let v405 : BitVec 32 := Scalar.addi v400 v404
  let c1_i32_301 : BitVec 32 := 1#32
  let v408 : BitVec 32 := Scalar.muli v405 c1_i32_301
  let v409 : BitVec 32 := Scalar.addi c0_i32_302 v408
  v409.toNat
def k0_dev22 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_306 : BitVec 32 := 8#32
  let v417 : BitVec 32 := Scalar.muli v3 c8_i32_306
  let c8_i32_0 : BitVec 32 := 8#32
  let v4 : BitVec 32 := Scalar.remsi v2 c8_i32_0
  let c2_i32 : BitVec 32 := 2#32
  let v5 : BitVec 32 := Scalar.divsi v4 c2_i32
  let c2_i32_307 : BitVec 32 := 2#32
  let v418 : BitVec 32 := Scalar.muli v5 c2_i32_307
  let v419 : BitVec 32 := Scalar.addi v417 v418
  let c2_i32_308 : BitVec 32 := 2#32
  let v420 : BitVec 32 := Scalar.remsi v5 c2_i32_308
  let c0_i32_309 : BitVec 32 := 0#32
  let v421 : BitVec 1 := Scalar.cmpi .eq v420 c0_i32_309
  let c1_i32_305 : BitVec 32 := 1#32
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let v416 : BitVec 32 := Scalar.subi c1_i32_305 v10
  let c1_i32_310 : BitVec 32 := 1#32
  let v422 : BitVec 32 := Scalar.subi c1_i32_310 v416
  let v423 : BitVec 32 := Scalar.select v421 v416 v422
  let v424 : BitVec 32 := Scalar.addi v419 v423
  let c1_i32_314 : BitVec 32 := 1#32
  let v427 : BitVec 32 := Scalar.muli v424 c1_i32_314
  let v428 : BitVec 32 := Scalar.addi c0_i32_315 v427
  v428.toNat
def k0_dev23 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_335 : BitVec 32 := 8#32
  let v455 : BitVec 32 := Scalar.muli v3 c8_i32_335
  let c8_i32_0 : BitVec 32 := 8#32
  let v4 : BitVec 32 := Scalar.remsi v2 c8_i32_0
  let c2_i32 : BitVec 32 := 2#32
  let v5 : BitVec 32 := Scalar.divsi v4 c2_i32
  let c1_i32_333 : BitVec 32 := 1#32
  let v453 : BitVec 32 := Scalar.addi v5 c1_i32_333
  let c4_i32_334 : BitVec 32 := 4#32
  let v454 : BitVec 32 := Scalar.remsi v453 c4_i32_334
  let c2_i32_336 : BitVec 32 := 2#32
  let v456 : BitVec 32 := Scalar.muli v454 c2_i32_336
  let v457 : BitVec 32 := Scalar.addi v455 v456
  let c2_i32_337 : BitVec 32 := 2#32
  let v458 : BitVec 32 := Scalar.remsi v454 c2_i32_337
  let c0_i32_338 : BitVec 32 := 0#32
  let v459 : BitVec 1 := Scalar.cmpi .eq v458 c0_i32_338
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let c1_i32_339 : BitVec 32 := 1#32
  let v460 : BitVec 32 := Scalar.subi c1_i32_339 v10
  let v461 : BitVec 32 := Scalar.select v459 v10 v460
  let v462 : BitVec 32 := Scalar.addi v457 v461
  let c1_i32_343 : BitVec 32 := 1#32
  let v465 : BitVec 32 := Scalar.muli v462 c1_i32_343
  let v466 : BitVec 32 := Scalar.addi c0_i32_344 v465
  v466.toNat
def k0_dev24 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_349 : BitVec 32 := 8#32
  let v475 : BitVec 32 := Scalar.muli v3 c8_i32_349
  let c8_i32_0 : BitVec 32 := 8#32
  let v4 : BitVec 32 := Scalar.remsi v2 c8_i32_0
  let c2_i32 : BitVec 32 := 2#32
  let v5 : BitVec 32 := Scalar.divsi v4 c2_i32
  let c2_i32_347 : BitVec 32 := 2#32
  let v473 : BitVec 32 := Scalar.addi v5 c2_i32_347
  let c4_i32_348 : BitVec 32 := 4#32
  let v474 : BitVec 32 := Scalar.remsi v473 c4_i32_348
  let c2_i32_350 : BitVec 32 := 2#32
  let v476 : BitVec 32 := Scalar.muli v474 c2_i32_350
  let v477 : BitVec 32 := Scalar.addi v475 v476
  let c2_i32_351 : BitVec 32 := 2#32
  let v478 : BitVec 32 := Scalar.remsi v474 c2_i32_351
  let c0_i32_352 : BitVec 32 := 0#32
  let v479 : BitVec 1 := Scalar.cmpi .eq v478 c0_i32_352
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let c1_i32_353 : BitVec 32 := 1#32
  let v480 : BitVec 32 := Scalar.subi c1_i32_353 v10
  let v481 : BitVec 32 := Scalar.select v479 v10 v480
  let v482 : BitVec 32 := Scalar.addi v477 v481
  let c1_i32_357 : BitVec 32 := 1#32
  let v485 : BitVec 32 := Scalar.muli v482 c1_i32_357
  let v486 : BitVec 32 := Scalar.addi c0_i32_358 v485
  v486.toNat
def k0_dev25 (d0 : Dev nD) : Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_363 : BitVec 32 := 8#32
  let v495 : BitVec 32 := Scalar.muli v3 c8_i32_363
  let c8_i32_0 : BitVec 32 := 8#32
  let v4 : BitVec 32 := Scalar.remsi v2 c8_i32_0
  let c2_i32 : BitVec 32 := 2#32
  let v5 : BitVec 32 := Scalar.divsi v4 c2_i32
  let c3_i32_361 : BitVec 32 := 3#32
  let v493 : BitVec 32 := Scalar.addi v5 c3_i32_361
  let c4_i32_362 : BitVec 32 := 4#32
  let v494 : BitVec 32 := Scalar.remsi v493 c4_i32_362
  let c2_i32_364 : BitVec 32 := 2#32
  let v496 : BitVec 32 := Scalar.muli v494 c2_i32_364
  let v497 : BitVec 32 := Scalar.addi v495 v496
  let c2_i32_365 : BitVec 32 := 2#32
  let v498 : BitVec 32 := Scalar.remsi v494 c2_i32_365
  let c0_i32_366 : BitVec 32 := 0#32
  let v499 : BitVec 1 := Scalar.cmpi .eq v498 c0_i32_366
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let c1_i32_367 : BitVec 32 := 1#32
  let v500 : BitVec 32 := Scalar.subi c1_i32_367 v10
  let v501 : BitVec 32 := Scalar.select v499 v10 v500
  let v502 : BitVec 32 := Scalar.addi v497 v501
  let c1_i32_371 : BitVec 32 := 1#32
  let v505 : BitVec 32 := Scalar.muli v502 c1_i32_371
  let v506 : BitVec 32 := Scalar.addi c0_i32_372 v505
  v506.toNat
def k0_dev26 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_376 : BitVec 32 := 8#32
  let v514 : BitVec 32 := Scalar.muli v3 c8_i32_376
  let c8_i32_0 : BitVec 32 := 8#32
  let v4 : BitVec 32 := Scalar.remsi v2 c8_i32_0
  let c2_i32 : BitVec 32 := 2#32
  let v5 : BitVec 32 := Scalar.divsi v4 c2_i32
  let c2_i32_377 : BitVec 32 := 2#32
  let v515 : BitVec 32 := Scalar.muli v5 c2_i32_377
  let v516 : BitVec 32 := Scalar.addi v514 v515
  let c2_i32_378 : BitVec 32 := 2#32
  let v517 : BitVec 32 := Scalar.remsi v5 c2_i32_378
  let c0_i32_379 : BitVec 32 := 0#32
  let v518 : BitVec 1 := Scalar.cmpi .eq v517 c0_i32_379
  let c1_i32_375 : BitVec 32 := 1#32
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let v513 : BitVec 32 := Scalar.subi c1_i32_375 v10
  let c1_i32_380 : BitVec 32 := 1#32
  let v519 : BitVec 32 := Scalar.subi c1_i32_380 v513
  let v520 : BitVec 32 := Scalar.select v518 v513 v519
  let v521 : BitVec 32 := Scalar.addi v516 v520
  let c1_i32_384 : BitVec 32 := 1#32
  let v524 : BitVec 32 := Scalar.muli v521 c1_i32_384
  let v525 : BitVec 32 := Scalar.addi c0_i32_385 v524
  v525.toNat
def k0_off4 (d0 : Dev nD) (c0_i32_390 : BitVec 32) (c1_i32_388 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v534 : BitVec 32 := Scalar.addi v3 c0_i32_390
  let c4_i32_391 : BitVec 32 := 4#32
  let v535 : BitVec 32 := Scalar.remsi v534 c4_i32_391
  let c8_i32_392 : BitVec 32 := 8#32
  let v536 : BitVec 32 := Scalar.muli v535 c8_i32_392
  let c8_i32_0 : BitVec 32 := 8#32
  let v4 : BitVec 32 := Scalar.remsi v2 c8_i32_0
  let c2_i32 : BitVec 32 := 2#32
  let v5 : BitVec 32 := Scalar.divsi v4 c2_i32
  let v532 : BitVec 32 := Scalar.addi v5 c1_i32_388
  let c4_i32_389 : BitVec 32 := 4#32
  let v533 : BitVec 32 := Scalar.remsi v532 c4_i32_389
  let c2_i32_393 : BitVec 32 := 2#32
  let v537 : BitVec 32 := Scalar.muli v533 c2_i32_393
  let v538 : BitVec 32 := Scalar.addi v536 v537
  let c2_i32_394 : BitVec 32 := 2#32
  let v539 : BitVec 32 := Scalar.remsi v533 c2_i32_394
  let c0_i32_395 : BitVec 32 := 0#32
  let v540 : BitVec 1 := Scalar.cmpi .eq v539 c0_i32_395
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let c1_i32_396 : BitVec 32 := 1#32
  let v541 : BitVec 32 := Scalar.subi c1_i32_396 v10
  let v542 : BitVec 32 := Scalar.select v540 v10 v541
  let v543 : BitVec 32 := Scalar.addi v538 v542
  let c32_i32_398 : BitVec 32 := 32#32
  let v545 : BitVec 32 := Scalar.muli v543 c32_i32_398
  let c0_i32_403 : BitVec 32 := 0#32
  ![v545.toNat, 0]
def k0_dev27 (d0 : Dev nD) : Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_406 : BitVec 32 := 8#32
  let v553 : BitVec 32 := Scalar.muli v3 c8_i32_406
  let c8_i32_0 : BitVec 32 := 8#32
  let v4 : BitVec 32 := Scalar.remsi v2 c8_i32_0
  let c2_i32 : BitVec 32 := 2#32
  let v5 : BitVec 32 := Scalar.divsi v4 c2_i32
  let c2_i32_407 : BitVec 32 := 2#32
  let v554 : BitVec 32 := Scalar.muli v5 c2_i32_407
  let v555 : BitVec 32 := Scalar.addi v553 v554
  let c2_i32_408 : BitVec 32 := 2#32
  let v556 : BitVec 32 := Scalar.remsi v5 c2_i32_408
  let c0_i32_409 : BitVec 32 := 0#32
  let v557 : BitVec 1 := Scalar.cmpi .eq v556 c0_i32_409
  let c1_i32_405 : BitVec 32 := 1#32
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let v552 : BitVec 32 := Scalar.subi c1_i32_405 v10
  let c1_i32_410 : BitVec 32 := 1#32
  let v558 : BitVec 32 := Scalar.subi c1_i32_410 v552
  let v559 : BitVec 32 := Scalar.select v557 v552 v558
  let v560 : BitVec 32 := Scalar.addi v555 v559
  let c1_i32_414 : BitVec 32 := 1#32
  let v563 : BitVec 32 := Scalar.muli v560 c1_i32_414
  let v564 : BitVec 32 := Scalar.addi c0_i32_415 v563
  v564.toNat
def k0_dev28 (d0 : Dev nD) : Nat :=
  let c0_i32_445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_436 : BitVec 32 := 8#32
  let v592 : BitVec 32 := Scalar.muli v3 c8_i32_436
  let c8_i32_0 : BitVec 32 := 8#32
  let v4 : BitVec 32 := Scalar.remsi v2 c8_i32_0
  let c2_i32 : BitVec 32 := 2#32
  let v5 : BitVec 32 := Scalar.divsi v4 c2_i32
  let c2_i32_437 : BitVec 32 := 2#32
  let v593 : BitVec 32 := Scalar.muli v5 c2_i32_437
  let v594 : BitVec 32 := Scalar.addi v592 v593
  let c2_i32_438 : BitVec 32 := 2#32
  let v595 : BitVec 32 := Scalar.remsi v5 c2_i32_438
  let c0_i32_439 : BitVec 32 := 0#32
  let v596 : BitVec 1 := Scalar.cmpi .eq v595 c0_i32_439
  let c1_i32_435 : BitVec 32 := 1#32
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let v591 : BitVec 32 := Scalar.subi c1_i32_435 v10
  let c1_i32_440 : BitVec 32 := 1#32
  let v597 : BitVec 32 := Scalar.subi c1_i32_440 v591
  let v598 : BitVec 32 := Scalar.select v596 v591 v597
  let v599 : BitVec 32 := Scalar.addi v594 v598
  let c1_i32_444 : BitVec 32 := 1#32
  let v602 : BitVec 32 := Scalar.muli v599 c1_i32_444
  let v603 : BitVec 32 := Scalar.addi c0_i32_445 v602
  v603.toNat
def k0_dev29 (d0 : Dev nD) : Nat :=
  let c0_i32_475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_466 : BitVec 32 := 8#32
  let v631 : BitVec 32 := Scalar.muli v3 c8_i32_466
  let c8_i32_0 : BitVec 32 := 8#32
  let v4 : BitVec 32 := Scalar.remsi v2 c8_i32_0
  let c2_i32 : BitVec 32 := 2#32
  let v5 : BitVec 32 := Scalar.divsi v4 c2_i32
  let c2_i32_467 : BitVec 32 := 2#32
  let v632 : BitVec 32 := Scalar.muli v5 c2_i32_467
  let v633 : BitVec 32 := Scalar.addi v631 v632
  let c2_i32_468 : BitVec 32 := 2#32
  let v634 : BitVec 32 := Scalar.remsi v5 c2_i32_468
  let c0_i32_469 : BitVec 32 := 0#32
  let v635 : BitVec 1 := Scalar.cmpi .eq v634 c0_i32_469
  let c1_i32_465 : BitVec 32 := 1#32
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let v630 : BitVec 32 := Scalar.subi c1_i32_465 v10
  let c1_i32_470 : BitVec 32 := 1#32
  let v636 : BitVec 32 := Scalar.subi c1_i32_470 v630
  let v637 : BitVec 32 := Scalar.select v635 v630 v636
  let v638 : BitVec 32 := Scalar.addi v633 v637
  let c1_i32_474 : BitVec 32 := 1#32
  let v641 : BitVec 32 := Scalar.muli v638 c1_i32_474
  let v642 : BitVec 32 := Scalar.addi c0_i32_475 v641
  v642.toNat
def k0_dev30 (d0 : Dev nD) : Nat :=
  let c0_i32_505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_496 : BitVec 32 := 8#32
  let v670 : BitVec 32 := Scalar.muli v3 c8_i32_496
  let c8_i32_0 : BitVec 32 := 8#32
  let v4 : BitVec 32 := Scalar.remsi v2 c8_i32_0
  let c2_i32 : BitVec 32 := 2#32
  let v5 : BitVec 32 := Scalar.divsi v4 c2_i32
  let c2_i32_497 : BitVec 32 := 2#32
  let v671 : BitVec 32 := Scalar.muli v5 c2_i32_497
  let v672 : BitVec 32 := Scalar.addi v670 v671
  let c2_i32_498 : BitVec 32 := 2#32
  let v673 : BitVec 32 := Scalar.remsi v5 c2_i32_498
  let c0_i32_499 : BitVec 32 := 0#32
  let v674 : BitVec 1 := Scalar.cmpi .eq v673 c0_i32_499
  let c1_i32_495 : BitVec 32 := 1#32
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let v669 : BitVec 32 := Scalar.subi c1_i32_495 v10
  let c1_i32_500 : BitVec 32 := 1#32
  let v675 : BitVec 32 := Scalar.subi c1_i32_500 v669
  let v676 : BitVec 32 := Scalar.select v674 v669 v675
  let v677 : BitVec 32 := Scalar.addi v672 v676
  let c1_i32_504 : BitVec 32 := 1#32
  let v680 : BitVec 32 := Scalar.muli v677 c1_i32_504
  let v681 : BitVec 32 := Scalar.addi c0_i32_505 v680
  v681.toNat
def k0_dev31 (d0 : Dev nD) : Nat :=
  let c0_i32_535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_526 : BitVec 32 := 8#32
  let v709 : BitVec 32 := Scalar.muli v3 c8_i32_526
  let c8_i32_0 : BitVec 32 := 8#32
  let v4 : BitVec 32 := Scalar.remsi v2 c8_i32_0
  let c2_i32 : BitVec 32 := 2#32
  let v5 : BitVec 32 := Scalar.divsi v4 c2_i32
  let c2_i32_527 : BitVec 32 := 2#32
  let v710 : BitVec 32 := Scalar.muli v5 c2_i32_527
  let v711 : BitVec 32 := Scalar.addi v709 v710
  let c2_i32_528 : BitVec 32 := 2#32
  let v712 : BitVec 32 := Scalar.remsi v5 c2_i32_528
  let c0_i32_529 : BitVec 32 := 0#32
  let v713 : BitVec 1 := Scalar.cmpi .eq v712 c0_i32_529
  let c1_i32_525 : BitVec 32 := 1#32
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let v708 : BitVec 32 := Scalar.subi c1_i32_525 v10
  let c1_i32_530 : BitVec 32 := 1#32
  let v714 : BitVec 32 := Scalar.subi c1_i32_530 v708
  let v715 : BitVec 32 := Scalar.select v713 v708 v714
  let v716 : BitVec 32 := Scalar.addi v711 v715
  let c1_i32_534 : BitVec 32 := 1#32
  let v719 : BitVec 32 := Scalar.muli v716 c1_i32_534
  let v720 : BitVec 32 := Scalar.addi c0_i32_535 v719
  v720.toNat
def k0_dev32 (d0 : Dev nD) : Nat :=
  let c0_i32_565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_556 : BitVec 32 := 8#32
  let v748 : BitVec 32 := Scalar.muli v3 c8_i32_556
  let c8_i32_0 : BitVec 32 := 8#32
  let v4 : BitVec 32 := Scalar.remsi v2 c8_i32_0
  let c2_i32 : BitVec 32 := 2#32
  let v5 : BitVec 32 := Scalar.divsi v4 c2_i32
  let c2_i32_557 : BitVec 32 := 2#32
  let v749 : BitVec 32 := Scalar.muli v5 c2_i32_557
  let v750 : BitVec 32 := Scalar.addi v748 v749
  let c2_i32_558 : BitVec 32 := 2#32
  let v751 : BitVec 32 := Scalar.remsi v5 c2_i32_558
  let c0_i32_559 : BitVec 32 := 0#32
  let v752 : BitVec 1 := Scalar.cmpi .eq v751 c0_i32_559
  let c1_i32_555 : BitVec 32 := 1#32
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let v747 : BitVec 32 := Scalar.subi c1_i32_555 v10
  let c1_i32_560 : BitVec 32 := 1#32
  let v753 : BitVec 32 := Scalar.subi c1_i32_560 v747
  let v754 : BitVec 32 := Scalar.select v752 v747 v753
  let v755 : BitVec 32 := Scalar.addi v750 v754
  let c1_i32_564 : BitVec 32 := 1#32
  let v758 : BitVec 32 := Scalar.muli v755 c1_i32_564
  let v759 : BitVec 32 := Scalar.addi c0_i32_565 v758
  v759.toNat
def k0_dev33 (d0 : Dev nD) : Nat :=
  let c0_i32_595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_586 : BitVec 32 := 8#32
  let v787 : BitVec 32 := Scalar.muli v3 c8_i32_586
  let c8_i32_0 : BitVec 32 := 8#32
  let v4 : BitVec 32 := Scalar.remsi v2 c8_i32_0
  let c2_i32 : BitVec 32 := 2#32
  let v5 : BitVec 32 := Scalar.divsi v4 c2_i32
  let c2_i32_587 : BitVec 32 := 2#32
  let v788 : BitVec 32 := Scalar.muli v5 c2_i32_587
  let v789 : BitVec 32 := Scalar.addi v787 v788
  let c2_i32_588 : BitVec 32 := 2#32
  let v790 : BitVec 32 := Scalar.remsi v5 c2_i32_588
  let c0_i32_589 : BitVec 32 := 0#32
  let v791 : BitVec 1 := Scalar.cmpi .eq v790 c0_i32_589
  let c1_i32_585 : BitVec 32 := 1#32
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let v786 : BitVec 32 := Scalar.subi c1_i32_585 v10
  let c1_i32_590 : BitVec 32 := 1#32
  let v792 : BitVec 32 := Scalar.subi c1_i32_590 v786
  let v793 : BitVec 32 := Scalar.select v791 v786 v792
  let v794 : BitVec 32 := Scalar.addi v789 v793
  let c1_i32_594 : BitVec 32 := 1#32
  let v797 : BitVec 32 := Scalar.muli v794 c1_i32_594
  let v798 : BitVec 32 := Scalar.addi c0_i32_595 v797
  v798.toNat
def k0_dev34 (d0 : Dev nD) : Nat :=
  let c0_i32_625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_616 : BitVec 32 := 8#32
  let v826 : BitVec 32 := Scalar.muli v3 c8_i32_616
  let c8_i32_0 : BitVec 32 := 8#32
  let v4 : BitVec 32 := Scalar.remsi v2 c8_i32_0
  let c2_i32 : BitVec 32 := 2#32
  let v5 : BitVec 32 := Scalar.divsi v4 c2_i32
  let c2_i32_617 : BitVec 32 := 2#32
  let v827 : BitVec 32 := Scalar.muli v5 c2_i32_617
  let v828 : BitVec 32 := Scalar.addi v826 v827
  let c2_i32_618 : BitVec 32 := 2#32
  let v829 : BitVec 32 := Scalar.remsi v5 c2_i32_618
  let c0_i32_619 : BitVec 32 := 0#32
  let v830 : BitVec 1 := Scalar.cmpi .eq v829 c0_i32_619
  let c1_i32_615 : BitVec 32 := 1#32
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let v825 : BitVec 32 := Scalar.subi c1_i32_615 v10
  let c1_i32_620 : BitVec 32 := 1#32
  let v831 : BitVec 32 := Scalar.subi c1_i32_620 v825
  let v832 : BitVec 32 := Scalar.select v830 v825 v831
  let v833 : BitVec 32 := Scalar.addi v828 v832
  let c1_i32_624 : BitVec 32 := 1#32
  let v836 : BitVec 32 := Scalar.muli v833 c1_i32_624
  let v837 : BitVec 32 := Scalar.addi c0_i32_625 v836
  v837.toNat
def k0_dev35 (d0 : Dev nD) : Nat :=
  let c0_i32_655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_646 : BitVec 32 := 8#32
  let v865 : BitVec 32 := Scalar.muli v3 c8_i32_646
  let c8_i32_0 : BitVec 32 := 8#32
  let v4 : BitVec 32 := Scalar.remsi v2 c8_i32_0
  let c2_i32 : BitVec 32 := 2#32
  let v5 : BitVec 32 := Scalar.divsi v4 c2_i32
  let c2_i32_647 : BitVec 32 := 2#32
  let v866 : BitVec 32 := Scalar.muli v5 c2_i32_647
  let v867 : BitVec 32 := Scalar.addi v865 v866
  let c2_i32_648 : BitVec 32 := 2#32
  let v868 : BitVec 32 := Scalar.remsi v5 c2_i32_648
  let c0_i32_649 : BitVec 32 := 0#32
  let v869 : BitVec 1 := Scalar.cmpi .eq v868 c0_i32_649
  let c1_i32_645 : BitVec 32 := 1#32
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let v864 : BitVec 32 := Scalar.subi c1_i32_645 v10
  let c1_i32_650 : BitVec 32 := 1#32
  let v870 : BitVec 32 := Scalar.subi c1_i32_650 v864
  let v871 : BitVec 32 := Scalar.select v869 v864 v870
  let v872 : BitVec 32 := Scalar.addi v867 v871
  let c1_i32_654 : BitVec 32 := 1#32
  let v875 : BitVec 32 := Scalar.muli v872 c1_i32_654
  let v876 : BitVec 32 := Scalar.addi c0_i32_655 v875
  v876.toNat
def k0_dev36 (d0 : Dev nD) : Nat :=
  let c0_i32_685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_676 : BitVec 32 := 8#32
  let v904 : BitVec 32 := Scalar.muli v3 c8_i32_676
  let c8_i32_0 : BitVec 32 := 8#32
  let v4 : BitVec 32 := Scalar.remsi v2 c8_i32_0
  let c2_i32 : BitVec 32 := 2#32
  let v5 : BitVec 32 := Scalar.divsi v4 c2_i32
  let c2_i32_677 : BitVec 32 := 2#32
  let v905 : BitVec 32 := Scalar.muli v5 c2_i32_677
  let v906 : BitVec 32 := Scalar.addi v904 v905
  let c2_i32_678 : BitVec 32 := 2#32
  let v907 : BitVec 32 := Scalar.remsi v5 c2_i32_678
  let c0_i32_679 : BitVec 32 := 0#32
  let v908 : BitVec 1 := Scalar.cmpi .eq v907 c0_i32_679
  let c1_i32_675 : BitVec 32 := 1#32
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let v903 : BitVec 32 := Scalar.subi c1_i32_675 v10
  let c1_i32_680 : BitVec 32 := 1#32
  let v909 : BitVec 32 := Scalar.subi c1_i32_680 v903
  let v910 : BitVec 32 := Scalar.select v908 v903 v909
  let v911 : BitVec 32 := Scalar.addi v906 v910
  let c1_i32_684 : BitVec 32 := 1#32
  let v914 : BitVec 32 := Scalar.muli v911 c1_i32_684
  let v915 : BitVec 32 := Scalar.addi c0_i32_685 v914
  v915.toNat
def k0_dev37 (d0 : Dev nD) : Nat :=
  let c0_i32_715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_706 : BitVec 32 := 8#32
  let v943 : BitVec 32 := Scalar.muli v3 c8_i32_706
  let c8_i32_0 : BitVec 32 := 8#32
  let v4 : BitVec 32 := Scalar.remsi v2 c8_i32_0
  let c2_i32 : BitVec 32 := 2#32
  let v5 : BitVec 32 := Scalar.divsi v4 c2_i32
  let c2_i32_707 : BitVec 32 := 2#32
  let v944 : BitVec 32 := Scalar.muli v5 c2_i32_707
  let v945 : BitVec 32 := Scalar.addi v943 v944
  let c2_i32_708 : BitVec 32 := 2#32
  let v946 : BitVec 32 := Scalar.remsi v5 c2_i32_708
  let c0_i32_709 : BitVec 32 := 0#32
  let v947 : BitVec 1 := Scalar.cmpi .eq v946 c0_i32_709
  let c1_i32_705 : BitVec 32 := 1#32
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let v942 : BitVec 32 := Scalar.subi c1_i32_705 v10
  let c1_i32_710 : BitVec 32 := 1#32
  let v948 : BitVec 32 := Scalar.subi c1_i32_710 v942
  let v949 : BitVec 32 := Scalar.select v947 v942 v948
  let v950 : BitVec 32 := Scalar.addi v945 v949
  let c1_i32_714 : BitVec 32 := 1#32
  let v953 : BitVec 32 := Scalar.muli v950 c1_i32_714
  let v954 : BitVec 32 := Scalar.addi c0_i32_715 v953
  v954.toNat
def k0_dev38 (d0 : Dev nD) : Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_736 : BitVec 32 := 8#32
  let v982 : BitVec 32 := Scalar.muli v3 c8_i32_736
  let c8_i32_0 : BitVec 32 := 8#32
  let v4 : BitVec 32 := Scalar.remsi v2 c8_i32_0
  let c2_i32 : BitVec 32 := 2#32
  let v5 : BitVec 32 := Scalar.divsi v4 c2_i32
  let c2_i32_737 : BitVec 32 := 2#32
  let v983 : BitVec 32 := Scalar.muli v5 c2_i32_737
  let v984 : BitVec 32 := Scalar.addi v982 v983
  let c2_i32_738 : BitVec 32 := 2#32
  let v985 : BitVec 32 := Scalar.remsi v5 c2_i32_738
  let c0_i32_739 : BitVec 32 := 0#32
  let v986 : BitVec 1 := Scalar.cmpi .eq v985 c0_i32_739
  let c1_i32_735 : BitVec 32 := 1#32
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let v981 : BitVec 32 := Scalar.subi c1_i32_735 v10
  let c1_i32_740 : BitVec 32 := 1#32
  let v987 : BitVec 32 := Scalar.subi c1_i32_740 v981
  let v988 : BitVec 32 := Scalar.select v986 v981 v987
  let v989 : BitVec 32 := Scalar.addi v984 v988
  let c1_i32_744 : BitVec 32 := 1#32
  let v992 : BitVec 32 := Scalar.muli v989 c1_i32_744
  let v993 : BitVec 32 := Scalar.addi c0_i32_745 v992
  v993.toNat
def k0_off5 (d0 : Dev nD) (c0_i32_751 : BitVec 32) (c0_i32_749 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v1003 : BitVec 32 := Scalar.addi v3 c0_i32_751
  let c4_i32_752 : BitVec 32 := 4#32
  let v1004 : BitVec 32 := Scalar.remsi v1003 c4_i32_752
  let c8_i32_753 : BitVec 32 := 8#32
  let v1005 : BitVec 32 := Scalar.muli v1004 c8_i32_753
  let c8_i32_0 : BitVec 32 := 8#32
  let v4 : BitVec 32 := Scalar.remsi v2 c8_i32_0
  let c2_i32 : BitVec 32 := 2#32
  let v5 : BitVec 32 := Scalar.divsi v4 c2_i32
  let v1001 : BitVec 32 := Scalar.addi v5 c0_i32_749
  let c4_i32_750 : BitVec 32 := 4#32
  let v1002 : BitVec 32 := Scalar.remsi v1001 c4_i32_750
  let c2_i32_754 : BitVec 32 := 2#32
  let v1006 : BitVec 32 := Scalar.muli v1002 c2_i32_754
  let v1007 : BitVec 32 := Scalar.addi v1005 v1006
  let c2_i32_755 : BitVec 32 := 2#32
  let v1008 : BitVec 32 := Scalar.remsi v1002 c2_i32_755
  let c0_i32_756 : BitVec 32 := 0#32
  let v1009 : BitVec 1 := Scalar.cmpi .eq v1008 c0_i32_756
  let c1_i32_748 : BitVec 32 := 1#32
  let c2_i32_2 : BitVec 32 := 2#32
  let v7 : BitVec 32 := Scalar.remsi v5 c2_i32_2
  let c0_i32 : BitVec 32 := 0#32
  let v8 : BitVec 1 := Scalar.cmpi .eq v7 c0_i32
  let c2_i32_1 : BitVec 32 := 2#32
  let v6 : BitVec 32 := Scalar.remsi v4 c2_i32_1
  let c1_i32_3 : BitVec 32 := 1#32
  let v9 : BitVec 32 := Scalar.subi c1_i32_3 v6
  let v10 : BitVec 32 := Scalar.select v8 v6 v9
  let v1000 : BitVec 32 := Scalar.subi c1_i32_748 v10
  let c1_i32_757 : BitVec 32 := 1#32
  let v1010 : BitVec 32 := Scalar.subi c1_i32_757 v1000
  let v1011 : BitVec 32 := Scalar.select v1009 v1000 v1010
  let v1012 : BitVec 32 := Scalar.addi v1007 v1011
  let c32_i32_759 : BitVec 32 := 32#32
  let v1014 : BitVec 32 := Scalar.muli v1012 c32_i32_759
  let c0_i32_764 : BitVec 32 := 0#32
  ![v1014.toNat, 0]
abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== UnclippedIdeal.lean ====
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Torus.lean ====
/-
  The torus and the kernel's copies over it.

  A device `c` of the 2 × 4 × 4 torus has the coordinates `cx c`, `cy c`, `cz c`. The 32 row blocks of the gathered array
  are numbered, AS DEVICE `c` SEES THEM, by the displacement of their owner from `c`: slot `j` is the block of the
  device `blk j c`, at displacement `(j / 16, j / 4 % 4, j % 4)` along `(x, y, z)` — slot 0 is its own block, slots 1–3
  come along `z`, 4–15 along `y`, 16–31 along `x`. The kernel makes 31 remote copies (`Fin 31`): copy `i` sends the block in
  slot `src i` to the peer `peer (pe i) c`, where it fills slot `rs i`. Everything here is arithmetic on these numbers,
  by evaluation.
-/
module

public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic Idealize.SL.Sem

/-! ## Coordinates -/

/-- The coordinate of a device along `z`. -/
def cz (c : Dev nD) : ℕ := c.val / 8
/-- The coordinate of a device along `y`. -/
def cy (c : Dev nD) : ℕ := c.val % 8 / 2
/-- The coordinate of a device along `x`: the devices of a plane are numbered in a snake. -/
def cx (c : Dev nD) : ℕ := if cy c % 2 = 0 then c.val % 2 else 1 - c.val % 2

/-- The number of the device at coordinates `(x, y, z)`, each taken around its ring. -/
def atVal (x y z : ℕ) : ℕ := 8 * (z % 4) + 2 * (y % 4) + (if y % 4 % 2 = 0 then x % 2 else 1 - x % 2)

theorem atVal_lt (x y z : ℕ) : atVal x y z < nD := by
  unfold atVal
  show _ < 32
  split <;> omega

/-- The owner of the block in slot `j` of device `c`. -/
def blk (j : Fin 32) (c : Dev nD) : Dev nD :=
  ⟨atVal (cx c + j.val / 16) (cy c + j.val / 4 % 4) (cz c + j.val % 4), atVal_lt _ _ _⟩

/-- The slot, seen from the device at displacement `e`, of the block in slot `s`. -/
def backVal (s e : ℕ) : ℕ := 16 * ((s / 16 + e / 16) % 2) + 4 * ((s / 4 % 4 + 4 - e / 4 % 4) % 4) + (s % 4 + 4 - e % 4) % 4
theorem backVal_lt (s e : ℕ) : backVal s e < 32 := by unfold backVal; omega
/-- The slot, seen from the device in slot `e`, of the block in slot `s`. -/
def back (s e : Fin 32) : Fin 32 := ⟨backVal s.val e.val, backVal_lt _ _⟩

/-! ## The peers: three along `z`, three along `y`, one along `x` -/

/-- The displacement of peer `p`, as a slot. -/
def pslot (p : Fin 7) : Fin 32 := ![1, 2, 3, 4, 8, 12, 16] p
/-- Peer `p` of device `c`. -/
def peer (p : Fin 7) (c : Dev nD) : Dev nD := blk (pslot p) c
/-- Which peer of its peer `p` a device is. -/
def pinv (p : Fin 7) : Fin 7 := ![2, 1, 0, 5, 4, 3, 6] p

theorem peer_pinv : ∀ (p : Fin 7) (c : Dev nD), peer (pinv p) (peer p c) = c := by decide +kernel
theorem pinv_pinv : ∀ p : Fin 7, pinv (pinv p) = p := by decide

/-! ## The copies -/

theorem src_lt (i : Fin 31) : (if i.val < 7 then 0 else if i.val < 19 then (i.val - 7) / 4 + 1 else i.val - 15) < 32 := by
  have := i.isLt
  split
  · omega
  · split <;> omega
/-- The slot copy `i` sends from. -/
def src (i : Fin 31) : Fin 32 := ⟨if i.val < 7 then 0 else if i.val < 19 then (i.val - 7) / 4 + 1 else i.val - 15, src_lt i⟩

theorem pe_lt (i : Fin 31) : (if i.val < 7 then i.val else if i.val < 19 then 3 + (i.val - 7) % 4 else 6) < 7 := by
  split
  · omega
  · split <;> omega
/-- The peer copy `i` goes to. -/
def pe (i : Fin 31) : Fin 7 := ⟨if i.val < 7 then i.val else if i.val < 19 then 3 + (i.val - 7) % 4 else 6, pe_lt i⟩

theorem lf_lt (i : Fin 31) : (if i.val < 7 then i.val else if i.val < 19 then (i.val - 7) % 4 else 0) < 2 ^ 3 := by
  split
  · omega
  · split <;> omega
/-- The share of its block copy `i` reads: one of eight, the copies out of one slot taking different ones, none the last. -/
def lf (i : Fin 31) : Fin (2 ^ 3) := ⟨if i.val < 7 then i.val else if i.val < 19 then (i.val - 7) % 4 else 0, lf_lt i⟩

/-- The device copy `i` goes to. -/
def tgt (i : Fin 31) (c : Dev nD) : Dev nD := peer (pe i) c
/-- The slot it fills there. -/
def rs (i : Fin 31) : Fin 32 := back (src i) (pslot (pe i))

/-- What a copy fills at its target is the block it read at its source. -/
theorem blk_rs : ∀ (i : Fin 31) (c : Dev nD), blk (rs i) (tgt i c) = blk (src i) c := by decide +kernel
theorem blk_zero : ∀ c : Dev nD, blk 0 c = c := by decide +kernel
theorem rs_ne_zero : ∀ i : Fin 31, rs i ≠ 0 := by decide +kernel

/-- The copy that fills slot `j`: along `x` from the peer's slot `j - 16`, along `y` from its slot `j % 4`, along `z` its own block. -/
def fillVal (j : ℕ) : ℕ :=
  if 16 ≤ j then (if j = 16 then 6 else if j < 20 then 7 + (j - 17) * 4 + 3 else 19 + (j - 20))
  else if 4 ≤ j then (if j % 4 = 0 then 3 + (3 - j / 4) else 7 + (j % 4 - 1) * 4 + (3 - j / 4))
  else 3 - j
theorem fillVal_lt (j : Fin 32) (h : j ≠ 0) : fillVal j.val < 31 := by
  have := j.isLt
  have : j.val ≠ 0 := fun e => h (Fin.ext e)
  unfold fillVal
  repeat' split
  all_goals omega
/-- Received slots, numbered from zero: the slot after `k`. -/
def sl (k : Fin 31) : Fin 32 := ⟨k.val + 1, by omega⟩
theorem sl_ne_zero (k : Fin 31) : sl k ≠ 0 := fun h => absurd (congrArg Fin.val h) (Nat.succ_ne_zero _)
/-- The copy that fills slot `sl k`. -/
def fill (k : Fin 31) : Fin 31 := ⟨fillVal (sl k).val, fillVal_lt _ (sl_ne_zero k)⟩
/-- The received slot copy `i` fills, numbered from zero. -/
def rk (i : Fin 31) : Fin 31 := ⟨(rs i).val - 1, by have := (rs i).isLt; omega⟩

theorem sl_rk : ∀ i : Fin 31, sl (rk i) = rs i := by decide +kernel
theorem rk_fill : ∀ k : Fin 31, rk (fill k) = k := by decide +kernel
theorem fill_rk : ∀ i : Fin 31, fill (rk i) = i := by decide +kernel

/-- Each device is in exactly one slot of `c`. -/
theorem blk_inj : ∀ (c : Dev nD) (i j : Fin 32), blk i c = blk j c → i = j := by decide +kernel
theorem blk_surj : ∀ (c d : Dev nD), ∃ j : Fin 32, blk j c = d := by decide +kernel

/-- The copies to and from: device `c`'s copy `i` against the slot it fills at its target. -/
def copyEquiv : Dev nD × Fin 31 ≃ Dev nD × Fin 31 where
  toFun x := (tgt x.2 x.1, rk x.2)
  invFun x := (peer (pinv (pe (fill x.2))) x.1, fill x.2)
  left_inv x := by
    obtain ⟨c, i⟩ := x
    simp only [fill_rk, tgt, peer_pinv]
  right_inv x := by
    obtain ⟨c, k⟩ := x
    have h := peer_pinv (pinv (pe (fill k))) c
    rw [pinv_pinv] at h
    simp only [rk_fill, tgt, h]

/-- The signals to and from: device `c`'s signal to its peer `p` against the peer of the target it is. -/
def peerEquiv : Dev nD × Fin 7 ≃ Dev nD × Fin 7 where
  toFun x := (peer x.2 x.1, pinv x.2)
  invFun x := (peer x.2 x.1, pinv x.2)
  left_inv x := by simp only [peer_pinv, pinv_pinv]
  right_inv x := by simp only [peer_pinv, pinv_pinv]

/-! ## The kernel's words, evaluated -/

/-- The device words of the signals. -/
def sigDev : Fin 7 → Dev nD → ℕ := ![k0_dev1, k0_dev2, k0_dev3, k0_dev4, k0_dev5, k0_dev6, k0_dev7]
/-- The device words of the copies. -/
def sendDev : Fin 31 → Dev nD → ℕ :=
  ![k0_dev8, k0_dev9, k0_dev10, k0_dev11, k0_dev12, k0_dev13, k0_dev14, k0_dev15, k0_dev16, k0_dev17, k0_dev18,
    k0_dev19, k0_dev20, k0_dev21, k0_dev22, k0_dev23, k0_dev24, k0_dev25, k0_dev26, k0_dev27, k0_dev28, k0_dev29, k0_dev30,
    k0_dev31, k0_dev32, k0_dev33, k0_dev34, k0_dev35, k0_dev36, k0_dev37, k0_dev38]
/-- The offset words of the slots: its own block, the blocks along `z`, along `y`, along `x`. -/
def slotOff (j : Fin 32) (c : Dev nD) : Fin 2 → ℕ :=
  if j.val = 0 then k0_off2 c
  else if j.val < 4 then k0_off3 c (BitVec.ofNat 32 j.val)
  else if j.val < 16 then k0_off4 c (BitVec.ofNat 32 (j.val % 4)) (BitVec.ofNat 32 (j.val / 4))
  else k0_off5 c (BitVec.ofNat 32 (j.val % 4)) (BitVec.ofNat 32 (j.val / 4 % 4))

/-- The offsets of a device's block. -/
def ofs (o : Dev nD) : Fin 2 → ℕ := ![32 * o.val, 0]
theorem ofs_inb (o : Dev nD) : ∀ a, ofs o a + S32x1024.size a ≤ S1024x1024.size a := by revert o; decide +kernel

theorem sigDev_eq : ∀ (p : Fin 7) (c : Dev nD), sigDev p c = (peer p c).val := by decide +kernel
theorem sendDev_eq : ∀ (i : Fin 31) (c : Dev nD), sendDev i c = (tgt i c).val := by decide +kernel
theorem slotOff_eq : ∀ (j : Fin 32) (c : Dev nD), slotOff j c = ofs (blk j c) := by decide +kernel
theorem off1_eq : ∀ c : Dev nD, k0_off1 c = ofs c := by decide +kernel

theorem sigDev_lt (p : Fin 7) (c : Dev nD) : sigDev p c < nD := sigDev_eq p c ▸ (peer p c).isLt
theorem sendDev_lt (i : Fin 31) (c : Dev nD) : sendDev i c < nD := sendDev_eq i c ▸ (tgt i c).isLt
theorem slotOff_inb (j : Fin 32) (c : Dev nD) : ∀ a, slotOff j c a + S32x1024.size a ≤ S1024x1024.size a := slotOff_eq j c ▸ ofs_inb _

end Cert.Proof

end
-- ==== Proof.Program.lean ====
/-
  The kernel's program, as lists: after its own block's copy into the gathered array, one list of remote copies and
  waits on received blocks, in the kernel's order; the compute; one list of waits on the copies' read-outs. `body_eq`
  states the kernel body is that program, its words those of `Torus`.
-/
module

public import proofs.«01_k».proof.Proof.Torus

@[expose] public section

noncomputable section

namespace Cert.Proof

open Cert.KernelIdeal Cert.KernelIdeal.Gen
open Idealize.ShloMosaic Idealize.SL.Sem

variable {F : FTy → Type} [FloatOps F]

/-! ## The memrefs and semaphores -/

/-- The staging buffers of `x`, of `w` and of the result, and the gathered array, whole. -/
abbrev xM : Memref sig .tc .vmem S32x1024 .f32 := Memref.whole cc0_stg0_0
abbrev wM : Memref sig .tc .vmem S1024x32 .f32 := Memref.whole cc0_stg1_0
abbrev oM : Memref sig .tc .vmem S1024x32 .f32 := Memref.whole cc0_stg2_0
abbrev gM : Memref sig .tc .vmem S1024x1024 .f32 := Memref.whole cc0_scratch0

/-- The rectangle of 32 rows of the gathered array at offsets `o`. -/
abbrev rowsAt (o : Fin 2 → ℕ) (h : ∀ a, o a + S32x1024.size a ≤ S1024x1024.size a) : Rect S1024x1024 :=
  Rect.unit (s := S1024x1024) o S32x1024.size h

/-- Those rows, as a memref. -/
abbrev rowsM (o : Fin 2 → ℕ) (h : ∀ a, o a + S32x1024.size a ≤ S1024x1024.size a) : Memref sig .tc .vmem S32x1024 .f32 :=
  gM.slice (rowsAt o h) (fun _ => rfl)

/-- The semaphore the block in slot `sl k` is received on. -/
def recvS (k : Fin 31) : DmaSem sig := (⟨3 + k.val, by have := k.isLt; omega⟩ : Fin 65)
/-- The semaphore copy `i`'s read-out signals. -/
def sendS (i : Fin 31) : DmaSem sig := (⟨34 + i.val, by have := i.isLt; omega⟩ : Fin 65)
/-- The rendezvous semaphore. -/
abbrev barS : Sem sig := (SemArray.scalar (sig.barrier 0 rfl) : Sems sig S_).sem

/-! ## The operations -/

/-- A remote copy, or a wait on a received block. -/
inductive Cmd where
  | send (i : Fin 31)
  | recv (k : Fin 31)

/-- Copy `i` on device `d`. -/
abbrev sendEff (d : Dev nD) (i : Fin 31) : TpuEff nD τ sig (Elt F) Λ₀ .tc PUnit :=
  .enqueueDma (rowsM (slotOff (src i) d) (slotOff_inb _ _))
    (.remote (Dev.tc (⟨sendDev i d, sendDev_lt i d⟩ : Dev nD)) (rowsM (slotOff (src i) d) (slotOff_inb _ _)) (.dma (sendS i)))
    (.dma (recvS (rk i))) (View.wordExact_bits rfl) (View.wordExact_bits rfl) ⟨⟨rfl, Or.inl rfl⟩, trivial⟩

/-- The wait on semaphore `sm` for a copy of the block in slot `j`. -/
abbrev waitEff (d : Dev nD) (sm : DmaSem sig) (j : Fin 32) : TpuEff nD τ sig (Elt F) Λ₀ .tc PUnit :=
  .waitDma2 sm (rowsM (slotOff j d) (slotOff_inb _ _)) (rowsM (slotOff j d) (slotOff_inb _ _)) (View.wordExact_bits rfl) (View.wordExact_bits rfl)

/-- The signals of the peers in `l`, then `q`. -/
def signals (d : Dev nD) (l : List (Fin 7)) (q : Prog (TpuEff nD τ sig (Elt F) Λ₀ .tc) PUnit) : Prog (TpuEff nD τ sig (Elt F) Λ₀ .tc) PUnit :=
  l.foldr (fun p q => .op (.semSignal (((⟨sigDev p d, sigDev_lt p d⟩ : Dev nD)), Proc.tc) barS 1) fun _ => q) q

/-- The copies and waits of `l`, then `q`. -/
def cmds (d : Dev nD) (l : List Cmd) (q : Prog (TpuEff nD τ sig (Elt F) Λ₀ .tc) PUnit) : Prog (TpuEff nD τ sig (Elt F) Λ₀ .tc) PUnit :=
  l.foldr (fun o q => match o with
    | .send i => .op (sendEff d i) fun _ => q
    | .recv k => .op (waitEff d (recvS k) (sl k)) fun _ => q) q

/-- The waits on the read-outs of the copies in `l`, then `q`. -/
def drains (d : Dev nD) (l : List (Fin 31)) (q : Prog (TpuEff nD τ sig (Elt F) Λ₀ .tc) PUnit) : Prog (TpuEff nD τ sig (Elt F) Λ₀ .tc) PUnit :=
  l.foldr (fun i q => .op (waitEff d (sendS i) (src i)) fun _ => q) q

/-- The kernel's copies and waits: its own block to all seven peers; each block received along `z` on to the four peers
    along `y` and `x`; each block received along `y` on to the peer along `x`; the blocks received along `x`. -/
def order : List Cmd :=
  [.send 0, .send 1, .send 2, .send 3, .send 4, .send 5, .send 6,
    .recv 0, .send 7, .send 8, .send 9, .send 10, .recv 1, .send 11, .send 12, .send 13, .send 14,
    .recv 2, .send 15, .send 16, .send 17, .send 18,
    .recv 3, .send 19, .recv 4, .send 20, .recv 5, .send 21, .recv 6, .send 22, .recv 7, .send 23, .recv 8, .send 24,
    .recv 9, .send 25, .recv 10, .send 26, .recv 11, .send 27, .recv 12, .send 28, .recv 13, .send 29, .recv 14, .send 30,
    .recv 15, .recv 16, .recv 17, .recv 18, .recv 19, .recv 20, .recv 21, .recv 22, .recv 23, .recv 24, .recv 25, .recv 26,
    .recv 27, .recv 28, .recv 29, .recv 30]

/-- The kernel's program on device `d`, after it has read which device it is. -/
def prog (d : Dev nD) : Prog (TpuEff nD τ sig (Elt F) Λ₀ .tc) PUnit :=
  signals d (List.finRange 7) <|
  .op (.semWait barS 7) fun _ =>
  .op (.load xM (Rect.unit (s := S32x1024) ![0, 0] S32x1024.size inb_S32x1024_S32x1024_0_0).toLoadRect (View.loadsAt_vmem h_S32x1024)) fun v =>
  .op (.load gM (rowsAt (k0_off1 d) (k0_off1_inb d)).toLoadRect (View.loadsAt_vmem h_S32x1024)) fun _ =>
  .op (.store gM (rowsAt (k0_off1 d) (k0_off1_inb d)) (k0_pay1 v) Finset.univ (View.stores_vmem_bits_univ h_S32x1024 rfl) (.inl rfl)) fun _ =>
  cmds d order <|
  .op (.load gM (Rect.unit (s := S1024x1024) ![0, 0] S1024x1024.size inb_S1024x1024_S1024x1024_0_0).toLoadRect (View.loadsAt_vmem h_S1024x1024)) fun a =>
  .op (.load wM (Rect.unit (s := S1024x32) ![0, 0] S1024x32.size inb_S1024x32_S1024x32_0_0).toLoadRect (View.loadsAt_vmem h_S1024x32)) fun b =>
  .op (.load oM (Rect.unit (s := S1024x32) ![0, 0] S1024x32.size inb_S1024x32_S1024x32_0_0).toLoadRect (View.loadsAt_vmem h_S1024x32)) fun _ =>
  .op (.store oM (Rect.unit (s := S1024x32) ![0, 0] S1024x32.size inb_S1024x32_S1024x32_0_0) (k0_pay2 a b) Finset.univ (View.stores_vmem_bits_univ h_S1024x32 rfl) (.inl rfl)) fun _ =>
  drains d (List.finRange 31) <|
  .ret ⟨⟩

set_option maxRecDepth 65536 in
/-- The kernel's body is that program. -/
theorem body_eq : cc0_body (F := F) xM (Memref.isWhole_whole _) wM (Memref.isWhole_whole _) oM (Memref.isWhole_whole _) gM (Memref.isWhole_whole _)
      cc0_scratch1 cc0_scratch2 cc0_scratch3 cc0_scratch4
    = .op .deviceId fun d => prog d := rfl

end Cert.Proof

end
-- ==== Proof.Schedule.lean ====
/-
  The protocol: what each semaphore's units hand over.

  On every device the rendezvous semaphore has seven duties of one unit, one per peer: the peer's signal hands the device
  the landing places, in that peer's gathered array, of the copies the device will send it (`land`). Each of the 31
  receive semaphores has one duty of a copy's credit: it hands the device the block in that slot, holding its rows of the
  gathered array (`gathered`, the same contents on every device). Each of the 31 send semaphores has one: it hands
  back the share of the block the copy read. Levels order the waits: staging and send semaphores 0, the rendezvous 1, the
  blocks received along `z` 2, along `y` 3, along `x` 4.
-/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The protocol's rounds, duties named by a peer, -/
abbrev UB : Type := URounds (GSem nD τ sig) (Fin 7)
/-- beside the pipeline's. -/
abbrev UU : Type := UR sig nD τ × UB

local notation "𝕄" => MT nD τ sig Unit (Elt F) ℕ UU ℕ

/-- The pipeline's copy inside the algebra, -/
abbrev EP : Emb (UR sig nD τ) (MT nD τ sig Unit (Elt F) ℕ UU ℕ) := embL
/-- and the protocol's. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells -/

/-- Device `c`'s cells: the rendezvous, the receive of slot `sl k`, the read-out of copy `i`. -/
abbrev barCell (c : Dev nD) : GSem nD τ sig := ((c : Thread nD τ), .reg barS)
abbrev recvCell (c : Dev nD) (k : Fin 31) : GSem nD τ sig := ((c : Thread nD τ), .dma (recvS k))
abbrev sendCell (c : Dev nD) (i : Fin 31) : GSem nD τ sig := ((c : Thread nD τ), .dma (sendS i))

/-- The rows of device `o` in the gathered array. -/
abbrev blkM (o : Dev nD) : Memref sig .tc .vmem S32x1024 .f32 := rowsM (ofs o) (ofs_inb o)

/-- What a copy of one block credits. -/
def N : ℕ := (blkM 0).view.dmaCredit
theorem N_pos : 0 < N := View.dmaCredit_pos _ (by decide)
theorem N_eq (o : Dev nD) : (blkM o).view.dmaCredit = N := rfl

/-! ## Contents -/

/-- `x`'s block on device `c`, as fetched into its staging buffer, -/
def xstg (c : Dev nD) : (cc0_stg0_0 : Ref sig .tc).ty.Contents (Elt F) :=
  (win0_0.blk (0 : Fin 1)).view.read (Elt F) ((s₀ m ρ).mem ((c : Thread nD τ).loc main_arg0))
/-- and `w`'s. -/
def wstg (c : Dev nD) : (cc0_stg1_0 : Ref sig .tc).ty.Contents (Elt F) :=
  (win0_1.blk (0 : Fin 1)).view.read (Elt F) ((s₀ m ρ).mem ((c : Thread nD τ).loc main_arg1))

/-- The owner of row `r` of the gathered array. -/
def owner (r : Fin 1024) : Dev nD := (⟨r.val / 32, by have := r.isLt; omega⟩ : Fin 32)
/-- Its place in the owner's block. -/
def inner (r : Fin 1024) : Fin 32 := ⟨r.val % 32, Nat.mod_lt _ (by decide)⟩

/-- The gathered array: row `r` is row `r % 32` of the block of device `r / 32`. -/
def gathered : (cc0_scratch0 : Ref sig .tc).ty.Contents (Elt F) :=
  fun i : S1024x1024.Idx => xstg m ρ (owner (i 0)) (Shape.pair (d := S32x1024.size) (inner (i 0)) (i 1) : S32x1024.Idx)

/-- The coordinates of an element of block `o`. -/
theorem blk_emb_val (o : Dev nD) (j : S32x1024.Idx) (a : Fin 2) :
    (((blkM o).view.emb j : S1024x1024.Idx) a).val = ofs o a + (j a).val := by
  show ofs o a + 1 * (j a).val = _
  rw [Nat.one_mul]

omit [FloatOps F] in
/-- Block `o` of the gathered array is `x`'s block on device `o`. -/
theorem read_gathered (o : Dev nD) : (blkM o).view.read (Elt F) (gathered m ρ) = xstg m ρ o := by
  funext j
  have h0 := blk_emb_val o j 0
  have h1 := blk_emb_val o j 1
  have hj : (j 0).val < 32 := (j 0).isLt
  have e0 : ofs o 0 = 32 * o.val := rfl
  have e1 : ofs o 1 = 0 := rfl
  show xstg m ρ (owner (((blkM o).view.emb j : S1024x1024.Idx) 0)) (Shape.pair (d := S32x1024.size) (inner (((blkM o).view.emb j : S1024x1024.Idx) 0)) (((blkM o).view.emb j : S1024x1024.Idx) 1)) = _
  have ho : owner (((blkM o).view.emb j : S1024x1024.Idx) 0) = o := Fin.ext (by
    show (((blkM o).view.emb j : S1024x1024.Idx) 0).val / 32 = o.val
    omega)
  have hi : inner (((blkM o).view.emb j : S1024x1024.Idx) 0) = j 0 := Fin.ext (by
    show (((blkM o).view.emb j : S1024x1024.Idx) 0).val % 32 = (j 0).val
    omega)
  have h1' : ((blkM o).view.emb j : S1024x1024.Idx) 1 = j 1 := Fin.ext (by omega)
  rw [ho, hi, h1']
  exact congrArg _ (Shape.pair_eta j)

/-- Share `q` of block `o` of device `c`'s gathered array, at contents `f`. -/
def gPts (c o : Dev nD) (q : PosShare TreeShare) (f : (cc0_scratch0 : Ref sig .tc).ty.Contents (Elt F)) : sProp 𝕄 :=
  (blkM o).view.loc (c : Thread nD τ) ↦[(blkM o).view.set]{q} f

omit [FloatOps F] in
instance gPts_storable (c o : Dev nD) (q) (f) : BI.Storable (upEmb : UEmb _ 𝕄) (gPts (F := F) c o q f) := by unfold gPts; infer_instance

omit [FloatOps F] in
/-- A block is its eight shares. -/
theorem gPts_leaves (c o : Dev nD) (f) :
    (gPts c o fullShare f : sProp 𝕄) = bigSep Finset.univ fun l : Fin (2 ^ 3) => gPts c o (ShareLeaves.leaf 3 fullShare l) f := by
  unfold gPts; exact ShareLeaves.pointsTo_leaves _ _ 3 _

/-- The place of device `d`'s copy `i` at its target, at any contents. -/
def land (d : Dev nD) (i : Fin 31) : sProp 𝕄 := iprop(∃ f, gPts (tgt i d) (blk (src i) d) fullShare f)

omit [FloatOps F] in
instance land_storable (d : Dev nD) (i : Fin 31) : BI.Storable (upEmb : UEmb _ 𝕄) (land (F := F) d i) := by unfold land; infer_instance

/-! ## The schedule -/

/-- A peer's signal: the landing places at that peer of the copies that go to it. -/
def barPay (c : Dev nD) (p : Fin 7) : sProp 𝕄 := bigSep (Finset.univ.filter fun i => pe i = p) fun i => land c i
/-- A received block, holding its rows of the gathered array. -/
def recvPay (c : Dev nD) (k : Fin 31) : sProp 𝕄 := gPts c (blk (sl k) c) fullShare (gathered m ρ)
/-- The share a copy read. -/
def sendPay (c : Dev nD) (i : Fin 31) : sProp 𝕄 := gPts c (blk (src i) c) (ShareLeaves.leaf 3 fullShare (lf i)) (gathered m ρ)

/-- What the units of a DMA semaphore hand its device. -/
def dmaPay (c : Dev nD) (q : ℕ) : sProp 𝕄 :=
  if h : 3 ≤ q ∧ q < 34 then recvPay m ρ c ⟨q - 3, by omega⟩ else if h : 34 ≤ q ∧ q < 65 then sendPay m ρ c ⟨q - 34, by omega⟩ else iprop(emp)

/-- The number of a DMA semaphore. -/
def dnum (q : DmaSem sig) : ℕ := (q : Fin 65).val

/-- One round: seven unit duties on each rendezvous cell, one duty of a copy's credit on each receive and send cell. -/
def sched : Rounds.Schedule (GSem nD τ sig) (Fin 7) 𝕄 where
  duties g r := if r = 0 ∧ g.1.2 = .tc then (match g.2 with | .reg _ => Finset.univ | .dma q => if 3 ≤ dnum q then {0} else ∅) else ∅
  unitless _ := False
  amount g _ _ := match g.2 with | .reg _ => 1 | .dma _ => N
  payload g _ p := match g.2 with | .reg _ => barPay g.1.1 p | .dma q => dmaPay m ρ g.1.1 (dnum q)
  amount_pos g _ _ _ := by
    rcases g with ⟨_, s | q⟩
    · exact Nat.one_pos
    · exact N_pos

omit [FloatOps F] in
instance sched_payload_storable (g : GSem nD τ sig) (r : ℕ) (p : Fin 7) :
    BI.Storable (upEmb : UEmb _ 𝕄) ((sched (F := F) m ρ).payload g r p) := by
  rcases g with ⟨t, s | q⟩
  · show BI.Storable upEmb (barPay t.1 p)
    unfold barPay; infer_instance
  · show BI.Storable upEmb (dmaPay m ρ t.1 (dnum q))
    unfold dmaPay recvPay sendPay
    (repeat' split) <;> infer_instance

section Sched
variable (c : Dev nD)

theorem dnum_recv (k : Fin 31) : dnum (recvS k) = 3 + k.val := rfl
theorem dnum_send (i : Fin 31) : dnum (sendS i) = 34 + i.val := rfl

omit [FloatOps F] in
theorem duties_bar : (sched (F := F) m ρ).duties (barCell c) 0 = Finset.univ := by dsimp only [sched]; exact if_pos ⟨rfl, rfl⟩
omit [FloatOps F] in
theorem duties_recv (k : Fin 31) : (sched (F := F) m ρ).duties (recvCell c k) 0 = {0} := by
  dsimp only [sched]; rw [if_pos ⟨rfl, rfl⟩, if_pos (by rw [dnum_recv]; omega)]
omit [FloatOps F] in
theorem duties_send (i : Fin 31) : (sched (F := F) m ρ).duties (sendCell c i) 0 = {0} := by
  dsimp only [sched]; rw [if_pos ⟨rfl, rfl⟩, if_pos (by rw [dnum_send]; omega)]
omit [FloatOps F] in
theorem duties_later (g : GSem nD τ sig) : ∀ r, 1 ≤ r → (sched (F := F) m ρ).duties g r = ∅ :=
  fun r hr => if_neg fun h => by omega

omit [FloatOps F] in
theorem amount_bar (p : Fin 7) : (sched (F := F) m ρ).amount (barCell c) 0 p = 1 := rfl
omit [FloatOps F] in
theorem amount_recv (k : Fin 31) (p : Fin 7) : (sched (F := F) m ρ).amount (recvCell c k) 0 p = N := rfl
omit [FloatOps F] in
theorem amount_send (i : Fin 31) (p : Fin 7) : (sched (F := F) m ρ).amount (sendCell c i) 0 p = N := rfl

omit [FloatOps F] in
theorem expect_bar : (sched (F := F) m ρ).expect (barCell c) 0 = 7 := by
  unfold Schedule.expect Schedule.amountOf
  rw [duties_bar, Finset.sum_congr rfl fun p _ => amount_bar m ρ c p, Finset.sum_const, Finset.card_univ, Fintype.card_fin, smul_eq_mul]
omit [FloatOps F] in
theorem expect_recv (k : Fin 31) : (sched (F := F) m ρ).expect (recvCell c k) 0 = N := by
  unfold Schedule.expect Schedule.amountOf; rw [duties_recv, Finset.sum_singleton, amount_recv]
omit [FloatOps F] in
theorem expect_send (i : Fin 31) : (sched (F := F) m ρ).expect (sendCell c i) 0 = N := by
  unfold Schedule.expect Schedule.amountOf; rw [duties_send, Finset.sum_singleton, amount_send]

omit [FloatOps F] in
theorem payload_bar (p : Fin 7) : (sched (F := F) m ρ).payload (barCell c) 0 p = barPay c p := rfl
omit [FloatOps F] in
theorem payload_recv (k : Fin 31) (p : Fin 7) : (sched (F := F) m ρ).payload (recvCell c k) 0 p = recvPay m ρ c k := by
  have hk := k.isLt
  show dmaPay m ρ c (3 + k.val) = _
  unfold dmaPay
  rw [dif_pos ⟨by omega, by omega⟩]
  exact congrArg _ (Fin.ext (by show 3 + k.val - 3 = k.val; omega))
omit [FloatOps F] in
theorem payload_send (i : Fin 31) (p : Fin 7) : (sched (F := F) m ρ).payload (sendCell c i) 0 p = sendPay m ρ c i := by
  have hi := i.isLt
  show dmaPay m ρ c (34 + i.val) = _
  unfold dmaPay
  rw [dif_neg (by omega), dif_pos ⟨by omega, by omega⟩]
  exact congrArg _ (Fin.ext (by show 34 + i.val - 34 = i.val; omega))

omit [FloatOps F] in
/-- All seven signals' payloads are the landing places of all the copies. -/
theorem rest_bar : bigSep ((sched (F := F) m ρ).duties (barCell c) 0 \ ∅) (fun p => (sched (F := F) m ρ).payload (barCell c) 0 p)
    = bigSep Finset.univ fun i => land c i := by
  rw [Finset.sdiff_empty, duties_bar, bigSep_fiberwise Finset.univ pe,
    show Finset.univ.image pe = Finset.univ from by decide +kernel]
  rfl
omit [FloatOps F] in
theorem rest_recv (k : Fin 31) : bigSep ((sched (F := F) m ρ).duties (recvCell c k) 0 \ ∅) (fun p => (sched (F := F) m ρ).payload (recvCell c k) 0 p)
    = recvPay m ρ c k := by
  rw [Finset.sdiff_empty, duties_recv, bigSep_singleton, payload_recv]
omit [FloatOps F] in
theorem rest_send (i : Fin 31) : bigSep ((sched (F := F) m ρ).duties (sendCell c i) 0 \ ∅) (fun p => (sched (F := F) m ρ).payload (sendCell c i) 0 p)
    = sendPay m ρ c i := by
  rw [Finset.sdiff_empty, duties_send, bigSep_singleton, payload_send]

end Sched

/-! ## What each device owes; the levels -/

/-- What device `c` owes for the copies in `S`: each copy's credit on the receive cell it fills, -/
def owedC (c : Dev nD) (S : Finset (Fin 31)) : CellTallies nD τ sig Unit := ∑ i ∈ S, tallyAt (recvCell (tgt i c) (rk i)) () N
/-- and for the signals in `T`: a unit on each peer's rendezvous. -/
def owedB (c : Dev nD) (T : Finset (Fin 7)) : CellTallies nD τ sig Unit := ∑ p ∈ T, tallyAt (barCell (peer p c)) () 1
/-- What it owes at launch. -/
def O₀ (c : Dev nD) : CellTallies nD τ sig Unit := owedC c Finset.univ + owedB c Finset.univ

def L (g : GSem nD τ sig) : Finset Unit := if g.1.2 = .tc then {()} else ∅
/-- The level of a DMA semaphore, by its number, -/
def dlv (q : ℕ) : ℕ := if q < 3 then 0 else if q < 6 then 2 else if q < 18 then 3 else if q < 34 then 4 else 0
/-- and of a cell. -/
def lv (g : GSem nD τ sig) (_ : Unit) : ℕ := match g.2 with | .reg _ => 1 | .dma q => dlv (dnum q)

theorem L_of_ne (g : GSem nD τ sig) (h : g.1.2 ≠ .tc) : L g = ∅ := if_neg h
theorem L_tc (c : Dev nD) (sm : SemLoc sig) : L ((c : Thread nD τ), sm) = {()} := if_pos rfl

theorem owedC_pos {c : Dev nD} {S : Finset (Fin 31)} {g : GSem nD τ sig} {u : Unit} (h : 0 < owedC c S g u) : ∃ i ∈ S, g = recvCell (tgt i c) (rk i) := by
  by_contra hn
  push Not at hn
  unfold owedC at h
  rw [Finset.sum_apply, Finsupp.finset_sum_apply, Finset.sum_eq_zero fun i hi => by rw [tallyAt_apply, if_neg fun h' => hn i hi h'.1]] at h
  exact Nat.lt_irrefl 0 h
theorem owedB_pos {c : Dev nD} {T : Finset (Fin 7)} {g : GSem nD τ sig} {u : Unit} (h : 0 < owedB c T g u) : ∃ p ∈ T, g = barCell (peer p c) := by
  by_contra hn
  push Not at hn
  unfold owedB at h
  rw [Finset.sum_apply, Finsupp.finset_sum_apply, Finset.sum_eq_zero fun i hi => by rw [tallyAt_apply, if_neg fun h' => hn i hi h'.1]] at h
  exact Nat.lt_irrefl 0 h

omit [FloatOps F] in
/-- A device may wait on a semaphore whose level is below those of the receive cells it still owes. -/
theorem mayWait_owedC (c : Dev nD) (sm : SemLoc sig) (S : Finset (Fin 31)) (n : ℕ) (hs : lv ((c : Thread nD τ), sm) () ≤ n)
    (hS : ∀ i ∈ S, n < dlv (3 + (rk i).val)) :
    (levAts L lv : sProp 𝕄) ⊢ MayWait (c : Thread nD τ) sm () (owedC c S) :=
  MayOwe.of_cut (L := L) (lev := lv) n (fun p hp => by rw [Finset.mem_singleton.mp hp, L_tc]; exact Finset.mem_singleton_self _)
    (fun g u hg => by obtain ⟨i, -, rfl⟩ := owedC_pos hg; exact Finset.mem_singleton_self _)
    (fun p hp => by rw [Finset.mem_singleton.mp hp]; exact hs)
    (fun g u hg => by obtain ⟨i, hi, rfl⟩ := owedC_pos hg; exact hS i hi)

omit [FloatOps F] in
/-- A staging wait, owing everything or nothing. -/
theorem mayWait_stage (c : Dev nD) (q : DmaSem sig) (hq : dnum q < 3) (O : CellTallies nD τ sig Unit) (hO : O = O₀ c ∨ O = 0) :
    (levAts L lv : sProp 𝕄) ⊢ MayWait (c : Thread nD τ) (.dma q) () O := by
  rcases hO with rfl | rfl
  · have hp : ∀ (g : GSem nD τ sig) (u : Unit), 0 < O₀ c g u → u ∈ L g ∧ 0 < lv g u := fun g u hg => by
      unfold O₀ at hg
      rw [Pi.add_apply, Finsupp.add_apply] at hg
      rcases Nat.pos_of_ne_zero (n := owedC c Finset.univ g u) with h
      by_cases hc : owedC c Finset.univ g u = 0
      · obtain ⟨p, -, rfl⟩ := owedB_pos (c := c) (T := Finset.univ) (g := g) (u := u) (by omega)
        exact ⟨Finset.mem_singleton_self _, Nat.one_pos⟩
      · obtain ⟨i, -, rfl⟩ := owedC_pos (h hc)
        refine ⟨Finset.mem_singleton_self _, ?_⟩
        have hl : ∀ i : Fin 31, 0 < dlv (3 + (rk i).val) := by decide +kernel
        exact hl i
    exact MayOwe.of_cut (L := L) (lev := lv) 0 (fun p hp => by rw [Finset.mem_singleton.mp hp, L_tc]; exact Finset.mem_singleton_self _)
      (fun g u hg => (hp g u hg).1)
      (fun p hp => by rw [Finset.mem_singleton.mp hp]; show dlv (dnum q) ≤ 0; unfold dlv; rw [if_pos hq])
      (fun g u hg => (hp g u hg).2)
  · rw [MayWait_zero]; iintro -; iempintro

end Cert.Proof

end
-- ==== Proof.Run.lean ====
/-
  One copy, one wait, and the list of them. A device's state between two operations is `mid S R`: the copies in `S` are
  still to be made (their duty tokens and landing places are held), the blocks in `R` still to be received, and of the
  gathered array the device holds the shares `held S R` — every received block's eight, less those the copies made have
  borrowed. `ok` checks, by evaluation, that each copy's block has arrived before it is sent on and that each wait lies below
  what is still owed; `run_cmds` runs any list it accepts.
-/
module

public import proofs.«01_k».proof.Proof.Schedule

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Families of assertions, a member taken out, put in, and two joined -/

omit [FloatOps F] in
theorem bigSep_take {I : Type} [DecidableEq I] {s : Finset I} {i : I} (h : i ∈ s) {Φ : I → sProp 𝕄} :
    bigSep s Φ = iprop(Φ i ∗ bigSep (s.erase i) Φ) := bigSep_erase h
omit [FloatOps F] in
theorem bigSep_put {I : Type} [DecidableEq I] {s : Finset I} {i : I} (h : i ∉ s) {Φ : I → sProp 𝕄} :
    bigSep (insert i s) Φ = iprop(Φ i ∗ bigSep s Φ) := bigSep_insert h
omit [FloatOps F] in
theorem bigSep_join {I : Type} [DecidableEq I] {s t : Finset I} (h : Disjoint s t) {Φ : I → sProp 𝕄} :
    bigSep (s ∪ t) Φ = iprop(bigSep s Φ ∗ bigSep t Φ) := bigSep_union h

/-! ## The cells, indexed -/

/-- A device's cells: the rendezvous, the receives, the read-outs. -/
abbrev Cl : Type := Unit ⊕ (Fin 31 ⊕ Fin 31)

/-- Their semaphores. -/
def csem : Cl → SemLoc sig
  | .inl _ => .reg barS
  | .inr (.inl k) => .dma (recvS k)
  | .inr (.inr i) => .dma (sendS i)
/-- The cell of a device and an index. -/
def kcell (x : Dev nD × Cl) : GSem nD τ sig := ((x.1 : Thread nD τ), csem x.2)

/-- Every cell's invariant, at the names `K`, and that every cell has begun its round. -/
def records (K : Dev nD × Cl → ℕ) : sProp 𝕄 :=
  iprop((bigSep Finset.univ fun x : Dev nD × Cl => cellInv ER (sched m ρ) (K x) (kcell x))
    ∗ bigSep Finset.univ fun x : Dev nD × Cl => reached ER (kcell x) 0)

instance records_persistent (K : Dev nD × Cl → ℕ) : BI.Persistent (records m ρ K) := by unfold records; infer_instance

variable (K : Dev nD × Cl → ℕ)

omit [FloatOps F] in
/-- Any one cell's invariant and beginning. -/
theorem records_at (x : Dev nD × Cl) : records m ρ K ⊢ iprop(cellInv ER (sched m ρ) (K x) (kcell x) ∗ reached ER (kcell x) 0) := by
  unfold records
  exact BI.sep_mono (bigSep_elim (Finset.mem_univ x)) (bigSep_elim (Finset.mem_univ x))

omit [FloatOps F] in
theorem records_bar (c : Dev nD) : records m ρ K ⊢ iprop(cellInv ER (sched m ρ) (K (c, .inl ())) (barCell c) ∗ reached ER (barCell c) 0) :=
  records_at m ρ K (c, .inl ())
omit [FloatOps F] in
theorem records_recv (c : Dev nD) (k : Fin 31) :
    records m ρ K ⊢ iprop(cellInv ER (sched m ρ) (K (c, .inr (.inl k))) (recvCell c k) ∗ reached ER (recvCell c k) 0) :=
  records_at m ρ K (c, .inr (.inl k))
omit [FloatOps F] in
theorem records_send (c : Dev nD) (i : Fin 31) :
    records m ρ K ⊢ iprop(cellInv ER (sched m ρ) (K (c, .inr (.inr i))) (sendCell c i) ∗ reached ER (sendCell c i) 0) :=
  records_at m ρ K (c, .inr (.inr i))

/-! ## One copy -/

/-- The share of slot `x.1` numbered `x.2`, holding its rows of the gathered array. -/
def piece (c : Dev nD) (x : Fin 32 × Fin (2 ^ 3)) : sProp 𝕄 := gPts c (blk x.1 c) (ShareLeaves.leaf 3 fullShare x.2) (gathered m ρ)

omit [FloatOps F] in
/-- Copy `i` lands its block of the gathered array. -/
theorem landed (c : Dev nD) (o : Dev nD) (fd : (cc0_scratch0 : Ref sig .tc).ty.Contents (Elt F)) :
    ((blkM o).view.loc (c : Thread nD τ) ↦[(blkM o).view.set]{fullShare} ((blkM o).view.write (Elt F) fd ((blkM o).view.read (Elt F) (gathered m ρ)) Finset.univ) : sProp 𝕄)
      = gPts c o fullShare (gathered m ρ) := by
  unfold gPts
  refine pointsTo_congr fun x hx => ?_
  rw [View.write_read_eq_piecewise]
  exact Finset.piecewise_eq_of_mem _ _ _ hx

omit [FloatOps F] in
theorem owedC_erase (c : Dev nD) {S : Finset (Fin 31)} {i : Fin 31} (hi : i ∈ S) :
    owedC c S = owedC c (S.erase i) + tallyAt (recvCell (tgt i c) (rk i)) () N := (Finset.sum_erase_add _ _ hi).symm

/-- A remote copy: it takes the share it reads, the place it fills and both duty tokens, pays its receive cell and leaves the
    credit of its own read-out. -/
theorem wp_copy_one (c n : Dev nD) (i : Fin 31) (hn : n = tgt i c) (o : Fin 2 → ℕ) (h : ∀ a, o a + S32x1024.size a ≤ S1024x1024.size a) (ho : o = ofs (blk (src i) c))
    {hsc : (rowsM o h : Memref sig (Dev.tc n : Thread nD τ).2.kind .vmem S32x1024 .f32).view.ref.isScScratch = false}
    {hsrc : (rowsM o h).view.WordExact} {hdst : (rowsM o h).view.WordExact}
    {hsem : DmaTarget.Typed .vmem (.dma (recvS (rk i))) (.remote (Dev.tc n : Thread nD τ) (rowsM o h) (.dma (sendS i)) hsc)}
    {α : Type} {Q : α → sProp 𝕄} {k : PUnit → Prog (TpuEff nD τ sig (Elt F) Λ₀ .tc) α}
    {S : Finset (Fin 31)} (hi : i ∈ S) (W : Waits sig Unit) :
    iprop(records m ρ K ∗ piece m ρ c (src i, lf i) ∗ land c i ∗ owes (c : Thread nD τ) (owedC c S) W
        ∗ dutyTok ER (sendCell c i) 0 0 ∗ dutyTok ER (recvCell (tgt i c) (rk i)) 0 0)
      ⊢ iprop(((cred (tallyAt (sendCell c i) () N) ∗ owes (c : Thread nD τ) (owedC c (S.erase i)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowsM o h) (.remote (Dev.tc n : Thread nD τ) (rowsM o h) (.dma (sendS i)) hsc) (.dma (recvS (rk i))) hsrc hdst hsem) k) Q) := by
  subst hn ho
  unfold piece land
  iintro ⟨#HR, Hsrc, ⟨%fd, Hdst⟩, HO, HtS, HtR⟩ Hk
  ihave #HS := (records_send m ρ K c i) $$ HR
  icases HS with ⟨#HIs, #Hrs⟩
  ihave #HV := (records_recv m ρ K (tgt i c) (rk i)) $$ HR
  icases HV with ⟨#HIr, #Hrr⟩
  unfold gPts
  iapply (Rounds.wp_send_pointsTo 𝒱₀ ER (sched m ρ) (c : Thread nD τ) none (κ₁ := K (c, .inr (.inr i))) (κ₂ := K (tgt i c, .inr (.inl (rk i))))
    (c' := (tgt i c : Thread nD τ)) (src := blkM (blk (src i) c)) (dst := blkM (blk (src i) c)) (hsc := hsc) (hsrc := hsrc) (hdst := hdst) (hsem := hsem)
    (q := ShareLeaves.leaf 3 fullShare (lf i)) (fs := gathered m ρ) (r₁ := 0) (r₂ := 0) (d₁ := 0) (d₂ := 0) (fd := fd)
    (by rw [duties_send]; exact Finset.mem_singleton_self _) (by rw [duties_recv]; exact Finset.mem_singleton_self _)
    () () N rfl (amount_send m ρ c i 0) (amount_recv m ρ (tgt i c) (rk i) 0) (owedC c (S.erase i)) (owedC_erase c hi) (W := W)
    (by rw [payload_send]; exact BI.Entails.refl _)
    (by rw [payload_recv, landed, ← blk_rs]; unfold recvPay; rw [sl_rk])) $$ [Hsrc Hdst HO HtS HtR]
  · isplitr; · iexact HIs
    isplitr; · iexact HIr
    isplitl [Hsrc]; · iexact Hsrc
    isplitl [Hdst]; · iexact Hdst
    isplitl [HO]; · iexact HO
    isplitl [HtS]; · iexact HtS
    isplitr; · iexact Hrs
    isplitl [HtR]; · iexact HtR
    iexact Hrr
  iexact Hk

/-! ## One wait -/

/-- A wait on a received block: the block comes with it, and its cell closes. -/
theorem wp_recv_one (c : Dev nD) (k : Fin 31) {S : Finset (Fin 31)} (hS : ∀ i ∈ S, dlv (3 + k.val) < dlv (3 + (rk i).val))
    (o : Fin 2 → ℕ) (h : ∀ a, o a + S32x1024.size a ≤ S1024x1024.size a) {h₁ h₂ : (rowsM o h).view.WordExact}
    {α : Type} {Q : α → sProp 𝕄} {q : PUnit → Prog (TpuEff nD τ sig (Elt F) Λ₀ .tc) α} (W : Waits sig Unit) :
    iprop(records m ρ K ∗ levAts L lv ∗ cred (tallyAt (recvCell c k) () N) ∗ owes (c : Thread nD τ) (owedC c S) W ∗ atPos ER (recvCell c k) 0 ∅ 0)
      ⊢ iprop((((∃ W, owes (c : Thread nD τ) (owedC c S) W) ∗ semVal (recvCell c k) 0 ∗ recvPay m ρ c k) -∗ wp frame (wpE (defs₀ (F := F)) 𝒱₀ (c : Thread nD τ) none) Set.univ (q ⟨⟩) Q)
          -∗ wp frame (wpE (defs₀ (F := F)) 𝒱₀ (c : Thread nD τ) none) Set.univ (.op (.waitDma2 (recvS k) (rowsM o h) (rowsM o h) h₁ h₂) q) Q) := by
  iintro ⟨#HR, #Hlev, Hc, HO, Hat⟩ Hk
  ihave #HV := (records_recv m ρ K c k) $$ HR
  icases HV with ⟨#HI, -⟩
  iapply (Rounds.wp_wait_rest_token 𝒱₀ ER (sched m ρ) (c : Thread nD τ) none (κ := K (c, .inr (.inl k)))
      (wpE_waitDma2_eq 𝒱₀ (c : Thread nD τ) none Set.univ) (Set.mem_univ _) () (O := owedC c S) (W := W) (R := 0) (m := 0) (T := ∅)
      (by rw [Nat.zero_add, expect_recv]; rfl)) $$ [Hc HO Hat]
  · isplitr; · iexact HI
    isplitl [Hc]; · iexact Hc
    isplitl [HO]; · iexact HO
    isplitr; · iapply (mayWait_owedC c (.dma (recvS k)) S (dlv (3 + k.val)) le_rfl hS); iexact Hlev
    iexact Hat
  iintro ⟨HO, Hat, -, Hpay⟩
  ihave Hp := (Entails.of_eq (rest_recv m ρ c k)) $$ Hpay
  imod (Rounds.cell_close ER (sched m ρ) (Set.mem_univ (K (c, .inr (.inl k)))) (fun h => h) (R := 0 + 1) (duties_later m ρ (recvCell c k))) $$ [Hat] with Hz
  · isplitr; · iexact HI
    iexact Hat
  iapply Hk
  isplitl [HO]; · iexists _; iexact HO
  isplitl [Hz]; · iexact Hz
  iexact Hp

/-- A wait on a copy's read-out, owing nothing: the share it read comes back, and its cell closes. -/
theorem wp_drain_one (c : Dev nD) (i : Fin 31)
    (o : Fin 2 → ℕ) (h : ∀ a, o a + S32x1024.size a ≤ S1024x1024.size a) {h₁ h₂ : (rowsM o h).view.WordExact}
    {α : Type} {Q : α → sProp 𝕄} {q : PUnit → Prog (TpuEff nD τ sig (Elt F) Λ₀ .tc) α} (W : Waits sig Unit) :
    iprop(records m ρ K ∗ cred (tallyAt (sendCell c i) () N) ∗ owes (c : Thread nD τ) 0 W ∗ atPos ER (sendCell c i) 0 ∅ 0)
      ⊢ iprop((((∃ W, owes (c : Thread nD τ) 0 W) ∗ semVal (sendCell c i) 0 ∗ piece m ρ c (src i, lf i)) -∗ wp frame (wpE (defs₀ (F := F)) 𝒱₀ (c : Thread nD τ) none) Set.univ (q ⟨⟩) Q)
          -∗ wp frame (wpE (defs₀ (F := F)) 𝒱₀ (c : Thread nD τ) none) Set.univ (.op (.waitDma2 (sendS i) (rowsM o h) (rowsM o h) h₁ h₂) q) Q) := by
  iintro ⟨#HR, Hc, HO, Hat⟩ Hk
  ihave #HV := (records_send m ρ K c i) $$ HR
  icases HV with ⟨#HI, -⟩
  iapply (Rounds.wp_wait_rest_token 𝒱₀ ER (sched m ρ) (c : Thread nD τ) none (κ := K (c, .inr (.inr i)))
      (wpE_waitDma2_eq 𝒱₀ (c : Thread nD τ) none Set.univ) (Set.mem_univ _) () (O := 0) (W := W) (R := 0) (m := 0) (T := ∅)
      (by rw [Nat.zero_add, expect_send]; rfl)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq ((rest_send m ρ c i).trans (show _ = piece m ρ c (src i, lf i) from rfl))) $$ Hpay
  imod (Rounds.cell_close ER (sched m ρ) (Set.mem_univ (K (c, .inr (.inr i)))) (fun h => h) (R := 0 + 1) (duties_later m ρ (sendCell c i))) $$ [Hat] with Hz
  · isplitr; · iexact HI
    iexact Hat
  iapply Hk
  isplitl [HO]; · iexists _; iexact HO
  isplitl [Hz]; · iexact Hz
  iexact Hp

/-! ## The list of them -/

/-- The shares of the gathered array a device holds: of its own block and of the received ones, those no copy outside `A` has
    borrowed. -/
def held (A R : Finset (Fin 31)) : Finset (Fin 32 × Fin (2 ^ 3)) :=
  Finset.univ.filter fun x => (∀ k ∈ R, sl k ≠ x.1) ∧ ∀ i, (src i, lf i) = x → i ∈ A

theorem borrow_inj : ∀ i i' : Fin 31, (src i, lf i) = (src i', lf i') → i = i' := by decide +kernel

theorem mem_held {A R : Finset (Fin 31)} {x : Fin 32 × Fin (2 ^ 3)} :
    x ∈ held A R ↔ (∀ k ∈ R, sl k ≠ x.1) ∧ ∀ i, (src i, lf i) = x → i ∈ A := by
  unfold held; rw [Finset.mem_filter]; exact and_iff_right (Finset.mem_univ _)

/-- A copy borrows its share, -/
theorem held_erase {A R : Finset (Fin 31)} (i : Fin 31) : held (A.erase i) R = (held A R).erase (src i, lf i) := by
  ext x
  rw [Finset.mem_erase, mem_held, mem_held]
  constructor
  · rintro ⟨h1, h2⟩
    exact ⟨fun e => Finset.ne_of_mem_erase (h2 i e.symm) rfl, h1, fun j e => Finset.mem_of_mem_erase (h2 j e)⟩
  · rintro ⟨h0, h1, h2⟩
    exact ⟨h1, fun j e => Finset.mem_erase.mpr ⟨fun ej => h0 (by rw [← e, ej]), h2 j e⟩⟩

/-- and a received block adds its eight. -/
theorem held_recv {A R : Finset (Fin 31)} {k : Fin 31} (hk : k ∈ R) (hA : ∀ i, src i = sl k → i ∈ A) :
    held A (R.erase k) = held A R ∪ Finset.univ.map ⟨fun l : Fin (2 ^ 3) => (sl k, l), fun _ _ e => congrArg Prod.snd e⟩ := by
  ext x
  rw [Finset.mem_union, mem_held, mem_held, Finset.mem_map]
  constructor
  · rintro ⟨h1, h2⟩
    by_cases e : sl k = x.1
    · exact .inr ⟨x.2, Finset.mem_univ _, Prod.ext e rfl⟩
    · exact .inl ⟨fun k' hk' => if ek : k' = k then ek ▸ e else h1 k' (Finset.mem_erase.mpr ⟨ek, hk'⟩), h2⟩
  · rintro (⟨h1, h2⟩ | ⟨l, -, rfl⟩)
    · exact ⟨fun k' hk' => h1 k' (Finset.mem_of_mem_erase hk'), h2⟩
    · refine ⟨fun k' hk' e => Finset.ne_of_mem_erase hk' (Fin.ext ?_), fun i e => hA i (congrArg Prod.fst e)⟩
      have := congrArg Fin.val e
      exact Nat.succ.inj this

theorem held_recv_disjoint {A R : Finset (Fin 31)} {k : Fin 31} (hk : k ∈ R) :
    Disjoint (held A R) (Finset.univ.map ⟨fun l : Fin (2 ^ 3) => (sl k, l), fun _ _ e => congrArg Prod.snd e⟩) := by
  rw [Finset.disjoint_left]
  intro x hx hx'
  obtain ⟨l, -, rfl⟩ := Finset.mem_map.mp hx'
  exact (mem_held.mp hx).1 k hk rfl

/-- Copies to make `S`, blocks to receive `R`: the list is in an order the protocol allows, and does all of both. -/
def ok : Finset (Fin 31) → Finset (Fin 31) → List Cmd → Bool
  | S, R, [] => decide (S = ∅ ∧ R = ∅)
  | S, R, .send i :: l => decide (i ∈ S ∧ ∀ k ∈ R, sl k ≠ src i) && ok (S.erase i) R l
  | S, R, .recv k :: l => decide (k ∈ R ∧ (∀ i, src i = sl k → i ∈ S) ∧ ∀ i ∈ S, dlv (3 + k.val) < dlv (3 + (rk i).val)) && ok S (R.erase k) l

/-- The kernel's order is one. -/
theorem ok_order : ok Finset.univ Finset.univ order = true := by decide +kernel

/-- A device's state with the copies in `S` to make and the blocks in `R` to receive. -/
def mid (c : Dev nD) (S R : Finset (Fin 31)) : sProp 𝕄 :=
  iprop((∃ W, owes (c : Thread nD τ) (owedC c S) W)
    ∗ (bigSep S fun i => iprop(dutyTok ER (sendCell c i) 0 0 ∗ dutyTok ER (recvCell (tgt i c) (rk i)) 0 0 ∗ land c i))
    ∗ (bigSep (Finset.univ \ S) fun i => cred (tallyAt (sendCell c i) () N))
    ∗ (bigSep R fun k => iprop(cred (tallyAt (recvCell c k) () N) ∗ atPos ER (recvCell c k) 0 ∅ 0))
    ∗ (bigSep (Finset.univ \ R) fun k => semVal (recvCell c k) 0)
    ∗ bigSep (held S R) (piece m ρ c))

omit [FloatOps F] in
/-- A received block is its eight shares. -/
theorem recv_pieces (c : Dev nD) (k : Fin 31) :
    recvPay m ρ c k ⊢ bigSep (Finset.univ.map ⟨fun l : Fin (2 ^ 3) => (sl k, l), fun _ _ e => congrArg Prod.snd e⟩) (piece m ρ c) := by
  unfold recvPay
  rw [gPts_leaves, bigSep_map]
  exact BI.Entails.refl _

theorem sdiff_erase {A : Type} [Fintype A] [DecidableEq A] (S : Finset A) {i : A} (hi : i ∈ S) :
    Finset.univ \ S.erase i = insert i (Finset.univ \ S) := by
  ext x
  by_cases e : x = i
  · subst e; simp
  · simp [e]

/-- Any accepted list runs, from its state to the one where all is sent and received. -/
theorem run_cmds (c : Dev nD) {Q : PUnit → sProp 𝕄} (q : Prog (TpuEff nD τ sig (Elt F) Λ₀ .tc) PUnit) :
    ∀ (l : List Cmd) (S R : Finset (Fin 31)), ok S R l = true →
      iprop(records m ρ K ∗ levAts L lv ∗ mid m ρ c S R ∗ (mid m ρ c ∅ ∅ -∗ wp frame (wpE (defs₀ (F := F)) 𝒱₀ (c : Thread nD τ) none) Set.univ q Q))
        ⊢ wp frame (wpE (defs₀ (F := F)) 𝒱₀ (c : Thread nD τ) none) Set.univ (cmds c l q) Q
  | [], S, R, h => by
    obtain ⟨rfl, rfl⟩ := of_decide_eq_true h
    iintro ⟨-, -, Hm, Hk⟩
    iapply Hk; iexact Hm
  | .send i :: l, S, R, h => by
    obtain ⟨h0, hl⟩ := Bool.and_eq_true_iff.mp h
    obtain ⟨hi, hR⟩ := of_decide_eq_true h0
    have hp : (src i, lf i) ∈ held S R := mem_held.mpr ⟨hR, fun j e => borrow_inj j i e ▸ hi⟩
    have ih := run_cmds c (Q := Q) q l (S.erase i) R hl
    show _ ⊢ wp frame _ Set.univ (.op (sendEff c i) fun _ => cmds c l q) Q
    unfold mid at ih ⊢
    rw [bigSep_take (s := S) hi, bigSep_take hp]
    rw [sdiff_erase S hi, bigSep_put (by simp [hi]), held_erase] at ih
    iintro ⟨#HR, #Hlev, ⟨⟨%W, HO⟩, ⟨⟨HtS, HtR, Hl⟩, HS⟩, HC, HR1, HR2, Hp, Hh⟩, Hk⟩
    iapply (wp_copy_one m ρ K c _ i (Fin.ext (sendDev_eq i c)) _ _ (slotOff_eq _ _) hi W) $$ [HO HtS HtR Hl Hp]
    · isplitr; · iexact HR
      isplitl [Hp]; · iexact Hp
      isplitl [Hl]; · iexact Hl
      isplitl [HO]; · iexact HO
      isplitl [HtS] <;> iassumption
    iintro ⟨Hc, HO⟩
    iapply ih
    isplitr; · iexact HR
    isplitr; · iexact Hlev
    isplitr [Hk]
    · isplitl [HO]; · iexists W; iexact HO
      isplitl [HS]; · iexact HS
      isplitl [HC Hc]
      · isplitl [Hc] <;> iassumption
      isplitl [HR1]; · iexact HR1
      isplitl [HR2] <;> iassumption
    iexact Hk
  | .recv k :: l, S, R, h => by
    obtain ⟨h0, hl⟩ := Bool.and_eq_true_iff.mp h
    obtain ⟨hk, hA, hS⟩ := of_decide_eq_true h0
    have ih := run_cmds c (Q := Q) q l S (R.erase k) hl
    show _ ⊢ wp frame _ Set.univ (.op (waitEff c (recvS k) (sl k)) fun _ => cmds c l q) Q
    unfold mid at ih ⊢
    rw [bigSep_take (s := R) hk]
    rw [sdiff_erase R hk, bigSep_put (s := Finset.univ \ R) (by simp [hk]), held_recv hk hA, bigSep_join (held_recv_disjoint hk)] at ih
    iintro ⟨#HR, #Hlev, ⟨⟨%W, HO⟩, HS, HC, ⟨⟨Hc, Hat⟩, HR1⟩, HR2, Hh⟩, Hk⟩
    iapply (wp_recv_one m ρ K c k hS _ _ W) $$ [HO Hc Hat]
    · isplitr; · iexact HR
      isplitr; · iexact Hlev
      isplitl [Hc]; · iexact Hc
      isplitl [HO] <;> iassumption
    iintro ⟨HO, Hz, Hp⟩
    iapply ih
    isplitr; · iexact HR
    isplitr; · iexact Hlev
    isplitr [Hk]
    · isplitl [HO]; · iexact HO
      isplitl [HS]; · iexact HS
      isplitl [HC]; · iexact HC
      isplitl [HR1]; · iexact HR1
      isplitl [HR2 Hz]
      · isplitl [Hz] <;> iassumption
      isplitl [Hh]; · iexact Hh
      iapply (recv_pieces m ρ c k); iexact Hp
    iexact Hk

/-! ## The read-outs -/

/-- A device's state with the read-outs of `S` to wait for. -/
def mid' (c : Dev nD) (S : Finset (Fin 31)) : sProp 𝕄 :=
  iprop((∃ W, owes (c : Thread nD τ) 0 W)
    ∗ (bigSep S fun i => iprop(cred (tallyAt (sendCell c i) () N) ∗ atPos ER (sendCell c i) 0 ∅ 0))
    ∗ (bigSep (Finset.univ \ S) fun i => semVal (sendCell c i) 0)
    ∗ bigSep (held (Finset.univ \ S) ∅) (piece m ρ c))

/-- The waits on the read-outs run: every share is home. -/
theorem run_drains (c : Dev nD) {Q : PUnit → sProp 𝕄} (q : Prog (TpuEff nD τ sig (Elt F) Λ₀ .tc) PUnit) :
    ∀ (l : List (Fin 31)), l.Nodup →
      iprop(records m ρ K ∗ mid' m ρ c l.toFinset ∗ (mid' m ρ c ∅ -∗ wp frame (wpE (defs₀ (F := F)) 𝒱₀ (c : Thread nD τ) none) Set.univ q Q))
        ⊢ wp frame (wpE (defs₀ (F := F)) 𝒱₀ (c : Thread nD τ) none) Set.univ (drains c l q) Q
  | [], _ => by
    iintro ⟨-, Hm, Hk⟩
    iapply Hk; iexact Hm
  | i :: l, h => by
    obtain ⟨hi, hl⟩ := List.nodup_cons.mp h
    have hi' : i ∉ l.toFinset := fun h => hi (List.mem_toFinset.mp h)
    have hm : i ∈ insert i l.toFinset := Finset.mem_insert_self _ _
    have ih := run_drains c (Q := Q) q l hl
    have he : (insert i l.toFinset).erase i = l.toFinset := Finset.erase_insert hi'
    have hd : Finset.univ \ insert i l.toFinset = (Finset.univ \ l.toFinset).erase i := (Finset.erase_sdiff_comm _ _ _).symm.trans (by
      ext x; simp [not_or, and_comm]) |>.symm
    have hp : (src i, lf i) ∈ held (Finset.univ \ l.toFinset) ∅ :=
      mem_held.mpr ⟨fun _ h => absurd h (Finset.notMem_empty _), fun j e => borrow_inj j i e ▸ (by simp [hi'])⟩
    show _ ⊢ wp frame _ Set.univ (.op (waitEff c (sendS i) (src i)) fun _ => drains c l q) Q
    rw [List.toFinset_cons]
    unfold mid' at ih ⊢
    rw [bigSep_put hi', hd, held_erase]
    rw [bigSep_take (s := Finset.univ \ l.toFinset) (i := i) (by simp [hi']), bigSep_take hp] at ih
    iintro ⟨#HR, ⟨⟨%W, HO⟩, ⟨⟨Hc, Hat⟩, HS⟩, HZ, Hh⟩, Hk⟩
    iapply (wp_drain_one m ρ K c i _ _ W) $$ [HO Hc Hat]
    · isplitr; · iexact HR
      isplitl [Hc]; · iexact Hc
      isplitl [HO] <;> iassumption
    iintro ⟨HO, Hz, Hp⟩
    iapply ih
    isplitr; · iexact HR
    isplitr [Hk]
    · isplitl [HO]; · iexact HO
      isplitl [HS]; · iexact HS
      isplitl [HZ Hz]
      · isplitl [Hz] <;> iassumption
      isplitl [Hp] <;> iassumption
    iexact Hk

end Cert.Proof

end
-- ==== Proof.Scratch.lean ====
/-
  The gathered array's scratch, cut up: whole, it is its 32 blocks; its own block and the 31 landing places, which the device
  hands to its peers with the seven signals; and, at the end of the copies, the shares held. And the signals themselves.
-/
module

public import proofs.«01_k».proof.Proof.Run
public import Idealize.ShloMosaic.Lib.Pipeline.Value

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Blocks -/

/-- The elements of block `o` are those of the rows of device `o`. -/
theorem mem_blk (o : Dev nD) (i : S1024x1024.Idx) : i ∈ (blkM o).view.set ↔ owner (i 0) = o := by
  have hs : (blkM o).view.set = (rowsAt (ofs o) (ofs_inb o)).set := View.set_slice_whole _ _
  rw [hs]
  refine Rect.mem_set_unit.trans ?_
  have h1 : (i 1).val < 1024 := (i 1).isLt
  have e0 : ofs o 0 = 32 * o.val := rfl
  have e1 : ofs o 1 = 0 := rfl
  have s0 : S32x1024.size 0 = 32 := rfl
  have s1 : S32x1024.size 1 = 1024 := rfl
  constructor
  · intro h
    have h0 := h 0
    refine Fin.ext ?_
    show (i 0).val / 32 = o.val
    omega
  · intro h
    have h0 : (i 0).val / 32 = o.val := congrArg Fin.val h
    refine Fin.forall_fin_two.mpr ⟨?_, ?_⟩ <;> omega

/-- Device `c`'s whole scratch, a share of it. -/
def scr (c : Dev nD) (q : PosShare TreeShare) (f : (cc0_scratch0 : Ref sig .tc).ty.Contents (Elt F)) : sProp 𝕄 :=
  ((c : Thread nD τ).loc cc0_scratch0) ↦{q} f

omit [FloatOps F] in
/-- It is its 32 blocks. -/
theorem scr_blocks (c : Dev nD) (q : PosShare TreeShare) (f : (cc0_scratch0 : Ref sig .tc).ty.Contents (Elt F)) :
    (scr c q f : sProp 𝕄) = bigSep Finset.univ fun j : Fin 32 => gPts c (blk j c) q f := by
  have hu : (Finset.univ : Finset (Fin 32)).biUnion (fun j => (blkM (blk j c)).view.set) = (Finset.univ : Finset S1024x1024.Idx) :=
    Finset.eq_univ_iff_forall.mpr fun i => by
      obtain ⟨j, hj⟩ := blk_surj c (owner (i 0))
      exact Finset.mem_biUnion.mpr ⟨j, Finset.mem_univ _, (mem_blk _ i).mpr hj.symm⟩
  have hd : ∀ j ∈ (Finset.univ : Finset (Fin 32)), ∀ j' ∈ (Finset.univ : Finset (Fin 32)), j ≠ j' →
      Disjoint (blkM (blk j c)).view.set (blkM (blk j' c)).view.set := fun j _ j' _ hne =>
    Finset.disjoint_left.mpr fun i hi hi' => hne (blk_inj c j j' (((mem_blk _ i).mp hi).symm.trans ((mem_blk _ i).mp hi')))
  refine Eq.trans ?_ (pointsTo_biUnion (ℓ := (c : Thread nD τ).loc cc0_scratch0) Finset.univ (fun j => (blkM (blk j c)).view.set) hd)
  exact congrArg (fun S => (pointsTo ((c : Thread nD τ).loc cc0_scratch0) S q f : sProp 𝕄)) hu.symm

theorem slots_eq : (Finset.univ : Finset (Fin 32)) = insert 0 (Finset.univ.map ⟨rs, by decide +kernel⟩) := by decide +kernel

/-- The rendezvous partners, each with itself across. -/
def pinvEquiv : Fin 7 ≃ Fin 7 := ⟨pinv, pinv, pinv_pinv, pinv_pinv⟩

theorem pe_image : Finset.univ.image pe = Finset.univ := by decide +kernel

omit [FloatOps F] in
/-- The landing places a device hands its peer across link `p`: what that peer will need for its copies over the link. -/
theorem give (c : Dev nD) (p : Fin 7) (f : (cc0_scratch0 : Ref sig .tc).ty.Contents (Elt F)) :
    (bigSep (Finset.univ.filter fun i => pe i = pinv p) fun i => gPts c (blk (rs i) c) fullShare f : sProp 𝕄) ⊢ barPay (peer p c) (pinv p) := by
  unfold barPay
  refine bigSep_mono fun i hi => ?_
  have hp : pe i = pinv p := (Finset.mem_filter.mp hi).2
  have ht : tgt i (peer p c) = c := by unfold tgt; rw [hp, peer_pinv]
  have hl : (gPts c (blk (rs i) c) fullShare f : sProp 𝕄) ⊢ land (peer p c) i := by
    unfold land
    rw [← blk_rs, ht]
    iintro H
    iexists f; iexact H
  exact hl

omit [FloatOps F] in
/-- At the start the scratch is the device's own block and what its seven signals hand over. -/
theorem scr_start (c : Dev nD) (f : (cc0_scratch0 : Ref sig .tc).ty.Contents (Elt F)) :
    (scr c fullShare f : sProp 𝕄) ⊢ iprop(gPts c c fullShare f ∗ bigSep Finset.univ fun p : Fin 7 => barPay (peer p c) (pinv p)) := by
  rw [scr_blocks, slots_eq, bigSep_put (by decide +kernel), bigSep_map, blk_zero]
  iintro ⟨H0, H⟩
  isplitl [H0]; · iexact H0
  iapply (show (bigSep Finset.univ (fun i : Fin 31 => gPts c (blk (rs i) c) fullShare f) : sProp 𝕄) ⊢ bigSep Finset.univ fun p : Fin 7 => barPay (peer p c) (pinv p) from by
    rw [bigSep_fiberwise Finset.univ pe, pe_image, bigSep_univ_equiv pinvEquiv]
    exact bigSep_mono fun p _ => give c p f)
  iexact H

/-! ## The shares -/

theorem held_start : held Finset.univ Finset.univ = Finset.univ.map ⟨fun l : Fin (2 ^ 3) => ((0 : Fin 32), l), fun _ _ e => congrArg Prod.snd e⟩ := by
  decide +kernel
theorem held_end : held Finset.univ ∅ = Finset.univ := by decide +kernel

/-- The shares no copy borrows. -/
def lastShares : Finset (Fin 32 × Fin (2 ^ 3)) := Finset.univ.map ⟨fun j : Fin 32 => (j, (7 : Fin (2 ^ 3))), fun _ _ e => congrArg Prod.fst e⟩

theorem lastShares_subset : lastShares ⊆ held ∅ ∅ := by decide +kernel

omit [FloatOps F] in
/-- The own block is the first shares held, -/
theorem own_pieces (c : Dev nD) : (gPts c c fullShare (gathered m ρ) : sProp 𝕄) = bigSep (held Finset.univ Finset.univ) (piece m ρ c) := by
  rw [held_start, bigSep_map, gPts_leaves]
  refine bigSep_congr fun l _ => ?_
  show _ = gPts c (blk 0 c) _ _
  rw [blk_zero]; rfl
omit [FloatOps F] in
/-- the last share of every block a share of the whole array, -/
theorem last_pieces (c : Dev nD) : bigSep lastShares (piece m ρ c) = scr c (ShareLeaves.leaf 3 fullShare 7) (gathered m ρ) := by
  unfold lastShares
  rw [bigSep_map, scr_blocks]; rfl
omit [FloatOps F] in
/-- and all shares the whole array. -/
theorem all_pieces (c : Dev nD) : bigSep (held Finset.univ ∅) (piece m ρ c) = scr c fullShare (gathered m ρ) := by
  rw [held_end, bigSep_univ_prod, scr_blocks]
  exact bigSep_congr fun j _ => (gPts_leaves c (blk j c) (gathered m ρ)).symm

/-! ## The device's own block -/

theorem pay1_eq (v : Vec F S32x1024 .f32) : k0_pay1 v = v := (shapeCast_self _ _).trans (shapeCast_self _ _)

/-- The store of `x`'s block into the device's own rows. -/
theorem wp_own (c : Dev nD) (o : Fin 2 → ℕ) (h : ∀ a, o a + S32x1024.size a ≤ S1024x1024.size a) (ho : o = ofs c)
    {hl : (gM : Memref sig .tc .vmem S1024x1024 .f32).view.LoadsAt (rowsAt o h).toLoadRect}
    {hx : (gM.access (rowsAt o h)).Stores Finset.univ} {hm : (Finset.univ : Finset (rowsAt o h).shape.Idx) = Finset.univ ∨ ∀ a, (rowsAt o h).stride a = 1}
    (f : (cc0_scratch0 : Ref sig .tc).ty.Contents (Elt F)) {Q : PUnit → sProp 𝕄} {q : Prog (TpuEff nD τ sig (Elt F) Λ₀ .tc) PUnit} :
    (gPts c c fullShare f : sProp 𝕄)
      ⊢ iprop((gPts c c fullShare (gathered m ρ) -∗ wp frame (wpE (defs₀ (F := F)) 𝒱₀ (c : Thread nD τ) none) Set.univ q Q)
          -∗ wp frame (wpE (defs₀ (F := F)) 𝒱₀ (c : Thread nD τ) none) Set.univ
              (.op (.load gM (rowsAt o h).toLoadRect hl) fun _ => .op (.store gM (rowsAt o h) (k0_pay1 (xstg m ρ c)) Finset.univ hx hm) fun _ => q) Q) := by
  subst ho
  have hset : (gM : Memref sig .tc .vmem S1024x1024 .f32).view.setOn (rowsAt (ofs c) h).toLoadRect.set ⊆ (blkM c).view.set := by
    intro i hi
    have hs : (blkM c).view.set = (rowsAt (ofs c) (ofs_inb c)).set := View.set_slice_whole _ _
    rw [hs]
    obtain ⟨x, hx, rfl⟩ := Finset.mem_map.mp (show i ∈ (View.whole cc0_scratch0).setOn (rowsAt (ofs c) h).set by simpa using hi)
    exact hx
  have hw : ∀ i ∈ (blkM c).view.set, ((gM.access (rowsAt (ofs c) h)).write (Elt F) f (k0_pay1 (xstg m ρ c)) Finset.univ) i = gathered m ρ i := by
    intro i hi
    have he : k0_pay1 (xstg m ρ c) = (blkM c).view.read (Elt F) (gathered m ρ) := (pay1_eq _).trans (read_gathered m ρ c).symm
    have hp := congrFun (View.write_read_eq_piecewise (v := (blkM c).view) f (gathered m ρ) Finset.univ) i
    rw [View.setOn_univ, Finset.piecewise_eq_of_mem _ _ _ hi] at hp
    refine Eq.trans ?_ hp
    rw [he]
  unfold gPts
  iintro H Hk
  iapply (wp_load 𝒱₀ (c : Thread nD τ) none Set.univ (m := gM) hset) $$ H; iintro H
  iapply (wp_store 𝒱₀ (c : Thread nD τ) none Set.univ (m := gM) (r := rowsAt (ofs c) h) (Mk := Finset.univ) (S := (blkM c).view.set) (Finset.Subset.refl _)) $$ H; iintro H
  iapply Hk
  iapply (Entails.of_eq (pointsTo_congr hw)); iexact H

/-! ## The signals -/

variable (K : Dev nD × Cl → ℕ)

omit [FloatOps F] in
theorem owedB_insert (c : Dev nD) {T : Finset (Fin 7)} {p : Fin 7} (hp : p ∉ T) :
    owedC c Finset.univ + owedB c (insert p T) = owedC c Finset.univ + owedB c T + tallyAt (barCell (peer p c)) () 1 := by
  unfold owedB
  rw [Finset.sum_insert hp, add_assoc, add_comm (tallyAt _ _ _)]

/-- The signals run: each peer has its unit and the places its copies land in. -/
theorem run_signals (c : Dev nD) {Q : PUnit → sProp 𝕄} (q : Prog (TpuEff nD τ sig (Elt F) Λ₀ .tc) PUnit) :
    ∀ (l : List (Fin 7)), l.Nodup →
      iprop(records m ρ K ∗ (∃ W, owes (c : Thread nD τ) (owedC c Finset.univ + owedB c l.toFinset) W)
          ∗ (bigSep l.toFinset fun p => iprop(dutyTok ER (barCell (peer p c)) 0 (pinv p) ∗ barPay (peer p c) (pinv p)))
          ∗ ((∃ W, owes (c : Thread nD τ) (owedC c Finset.univ) W) -∗ wp frame (wpE (defs₀ (F := F)) 𝒱₀ (c : Thread nD τ) none) Set.univ q Q))
        ⊢ wp frame (wpE (defs₀ (F := F)) 𝒱₀ (c : Thread nD τ) none) Set.univ (signals c l q) Q
  | [], _ => by
    rw [List.toFinset_nil, show owedB c ∅ = 0 from Finset.sum_empty, add_zero]
    iintro ⟨-, HO, -, Hk⟩
    iapply Hk; iexact HO
  | p :: l, h => by
    obtain ⟨hp, hl⟩ := List.nodup_cons.mp h
    have hp' : p ∉ l.toFinset := fun h => hp (List.mem_toFinset.mp h)
    have ih := run_signals c (Q := Q) q l hl
    have he : (⟨sigDev p c, sigDev_lt p c⟩ : Dev nD) = peer p c := Fin.ext (sigDev_eq p c)
    show _ ⊢ wp frame _ Set.univ (.op (.semSignal (((⟨sigDev p c, sigDev_lt p c⟩ : Dev nD)), Proc.tc) barS 1) fun _ => signals c l q) Q
    rw [he, List.toFinset_cons, bigSep_put hp']
    iintro ⟨#HR, ⟨%W, HO⟩, ⟨⟨Ht, Hp⟩, HT⟩, Hk⟩
    ihave #HB := (records_bar m ρ K (peer p c)) $$ HR
    icases HB with ⟨#HI, #Hr⟩
    iapply (Rounds.wp_signal 𝒱₀ ER (sched m ρ) (c : Thread nD τ) none (dst := (peer p c : Thread nD τ)) (κ := K (peer p c, .inl ()))
        (d := pinv p) (by rw [duties_bar]; exact Finset.mem_univ _) ((amount_bar m ρ (peer p c) (pinv p)).trans (by decide)) ()
        (owedC c Finset.univ + owedB c l.toFinset) (owedB_insert c hp')) $$ [HO Ht Hp]
    · isplitr; · iexact HI
      isplitl [HO]; · iexact HO
      isplitl [Ht]; · iexact Ht
      isplitl [Hp]; · rw [payload_bar]; iexact Hp
      iexact Hr
    iintro HO
    iapply ih
    isplitr; · iexact HR
    isplitl [HO]; · iexists W; iexact HO
    isplitl [HT] <;> iassumption

end Cert.Proof

end
-- ==== Proof.Body.lean ====
/-
  The body on one device, from what the launch deals it to the gathered array in its scratch, its columns of the result in the
  output's staging, and every semaphore it used at zero.
-/
module

public import proofs.«01_k».proof.Proof.Scratch

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Device `c`'s columns of the result. -/
def outAt (c : Dev nD) : (cc0_stg2_0 : Ref sig .tc).ty.Contents (Elt F) := k0_pay2 (gathered m ρ) (wstg m ρ c)

/-- What the launch deals device `c` for itself: its positions, and the duty tokens it pays with. -/
def linear (c : Dev nD) : sProp 𝕄 :=
  iprop(atPos ER (barCell c) 0 ∅ 0 ∗ (bigSep Finset.univ fun k => atPos ER (recvCell c k) 0 ∅ 0) ∗ (bigSep Finset.univ fun i => atPos ER (sendCell c i) 0 ∅ 0)
    ∗ (bigSep Finset.univ fun p => dutyTok ER (barCell (peer p c)) 0 (pinv p))
    ∗ (bigSep Finset.univ fun i => dutyTok ER (recvCell (tgt i c) (rk i)) 0 0)
    ∗ (bigSep Finset.univ fun i => dutyTok ER (sendCell c i) 0 0))

/-- With every cell's invariant, at some names. -/
def ghost (c : Dev nD) : sProp 𝕄 := iprop(∃ K, records m ρ K ∗ linear c)

/-- What the body starts from, less the scratch: with its credits and the levels. -/
def start (c : Dev nD) : sProp 𝕄 :=
  iprop(ghost m ρ c ∗ cred (tallyAt (barCell c) () 7) ∗ (bigSep Finset.univ fun k => cred (tallyAt (recvCell c k) () N)) ∗ levAts L lv)

def Φ₀ (c : Dev nD) : sProp 𝕄 := iprop(start m ρ c ∗ ∃ f, scr c fullShare f)
/-- After the body: the gathered array, and the semaphores at zero. -/
def Φ₁ (c : Dev nD) : sProp 𝕄 :=
  iprop(scr c fullShare (gathered m ρ) ∗ semVal (barCell c) 0 ∗ (bigSep Finset.univ fun k => semVal (recvCell c k) 0) ∗ (bigSep Finset.univ fun i => semVal (sendCell c i) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem bigSep_part {I : Type} [DecidableEq I] {s t : Finset I} (h : t ⊆ s) {Φ : I → sProp 𝕄} :
    bigSep s Φ = iprop(bigSep t Φ ∗ bigSep (s \ t) Φ) := bigSep_sdiff_split h

/-! ## Whole loads and stores -/

omit [FloatOps F] in
theorem hz : (![0, 0] : Fin 2 → Nat) = fun _ => 0 := funext fun a => by fin_cases a <;> rfl
omit [FloatOps F] in
theorem read_x (f : (cc0_stg0_0 : Ref sig .tc).ty.Contents (Elt F)) :
    (xM : Memref sig .tc .vmem S32x1024 .f32).view.readAt (Elt F) (Rect.unit (s := S32x1024) ![0, 0] S32x1024.size inb_S32x1024_S32x1024_0_0).toLoadRect f = f :=
  Memref.readAt_unit_zero (Elt F) cc0_stg0_0 hz _ f
omit [FloatOps F] in
theorem read_w (f : (cc0_stg1_0 : Ref sig .tc).ty.Contents (Elt F)) :
    (wM : Memref sig .tc .vmem S1024x32 .f32).view.readAt (Elt F) (Rect.unit (s := S1024x32) ![0, 0] S1024x32.size inb_S1024x32_S1024x32_0_0).toLoadRect f = f :=
  Memref.readAt_unit_zero (Elt F) cc0_stg1_0 hz _ f
omit [FloatOps F] in
theorem read_g (f : (cc0_scratch0 : Ref sig .tc).ty.Contents (Elt F)) :
    (gM : Memref sig .tc .vmem S1024x1024 .f32).view.readAt (Elt F) (Rect.unit (s := S1024x1024) ![0, 0] S1024x1024.size inb_S1024x1024_S1024x1024_0_0).toLoadRect f = f :=
  Memref.readAt_unit_zero (Elt F) cc0_scratch0 hz _ f
omit [FloatOps F] in
theorem write_o (f w : (cc0_stg2_0 : Ref sig .tc).ty.Contents (Elt F)) :
    ((oM : Memref sig .tc .vmem S1024x32 .f32).access (Rect.unit (s := S1024x32) ![0, 0] S1024x32.size inb_S1024x32_S1024x32_0_0) : View sig .tc _ _ _).write (Elt F) f w Finset.univ = w :=
  Memref.write_access_unit_zero_univ (Elt F) cc0_stg2_0 hz _ f w

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (wstg m ρ c) ∗ stg c cc0_stg2_0 (outAt m ρ c))

theorem peers_univ : (List.finRange 7).toFinset = Finset.univ := by decide
theorem copies_univ : (List.finRange 31).toFinset = Finset.univ := by decide +kernel

/-- The wait for the seven signals: every landing place the device's copies need comes with it, and the rendezvous closes. -/
theorem wp_bar (K : Dev nD × Cl → ℕ) (c : Dev nD) {Q : PUnit → sProp 𝕄} {q : PUnit → Prog (TpuEff nD τ sig (Elt F) Λ₀ .tc) PUnit} (W : Waits sig Unit) :
    iprop(records m ρ K ∗ levAts L lv ∗ cred (tallyAt (barCell c) () 7) ∗ owes (c : Thread nD τ) (owedC c Finset.univ) W ∗ atPos ER (barCell c) 0 ∅ 0)
      ⊢ iprop((((∃ W, owes (c : Thread nD τ) (owedC c Finset.univ) W) ∗ semVal (barCell c) 0 ∗ bigSep Finset.univ fun i => land c i)
            -∗ wp frame (wpE (defs₀ (F := F)) 𝒱₀ (c : Thread nD τ) none) Set.univ (q ⟨⟩) Q)
          -∗ wp frame (wpE (defs₀ (F := F)) 𝒱₀ (c : Thread nD τ) none) Set.univ (.op (.semWait barS 7) q) Q) := by
  iintro ⟨#HR, #Hlev, Hc, HO, Hat⟩ Hk
  ihave #HV := (records_bar m ρ K c) $$ HR
  icases HV with ⟨#HI, -⟩
  iapply (Rounds.wp_wait_rest_token 𝒱₀ ER (sched m ρ) (c : Thread nD τ) none (κ := K (c, .inl ()))
      (wpE_semWait_eq 𝒱₀ (c : Thread nD τ) none Set.univ) (Set.mem_univ _) () (O := owedC c Finset.univ) (W := W) (R := 0) (m := 0) (T := ∅)
      (by rw [expect_bar])) $$ [Hc HO Hat]
  · isplitr; · iexact HI
    isplitl [Hc]; · iexact Hc
    isplitl [HO]; · iexact HO
    isplitr; · iapply (mayWait_owedC c (.reg barS) Finset.univ 1 le_rfl (by decide +kernel)); iexact Hlev
    iexact Hat
  iintro ⟨HO, Hat, -, Hpay⟩
  ihave Hp := (Entails.of_eq (rest_bar m ρ c)) $$ Hpay
  imod (Rounds.cell_close ER (sched m ρ) (Set.mem_univ (K (c, .inl ()))) (fun h => h) (R := 0 + 1) (duties_later m ρ (barCell c))) $$ [Hat] with Hz
  · isplitr; · iexact HI
    iexact Hat
  iapply Hk
  isplitl [HO]; · iexists _; iexact HO
  isplitl [Hz]; · iexact Hz
  iexact Hp

set_option maxRecDepth 65536 in
/-- The body, run on device `c`. -/
theorem sound_body (c : Dev nD) (Kt : PUnit → sProp 𝕄) :
    iprop(bodyPre m ρ c ∗ (bodyPost m ρ c -∗ Kt ⟨⟩))
      ⊢ wp frame (wpE (defs₀ (F := F)) 𝒱₀ (c : Thread nD τ) none) Set.univ (.op .deviceId fun d => prog d) Kt := by
  rw [wp_deviceId]
  show _ ⊢ wp frame _ Set.univ (prog c) Kt
  unfold bodyPre Φ₀ start ghost linear prog
  iintro ⟨⟨⟨⟨⟨%K, #HR, HatB, HatV, HatS, HtB, HtV, HtS⟩, HcB, HcV, #Hlev⟩, ⟨%f0, Hscr⟩⟩, Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos (fetch_0 t₀)]; rfl
  have hw : g1 = wstg m ρ c := by rw [hg1]; unfold Dat.before; rw [if_pos (fetch_1 t₀)]; rfl
  subst hx hw
  unfold Dat.owesAt Pipeline.owesWithin
  icases Ho with ⟨%W, %hW, HO⟩
  rw [show (dats m ρ 0 c).owed t₀.castSucc = owedC c Finset.univ + owedB c Finset.univ from rfl]
  ihave Hs := (scr_start c f0) $$ Hscr
  icases Hs with ⟨Hown, Hgive⟩
  iapply (run_signals m ρ K c _ (List.finRange 7) (List.nodup_finRange 7))
  rw [peers_univ, bigSep_sep']
  isplitr; · iexact HR
  isplitl [HO]; · iexists W; iexact HO
  isplitl [HtB Hgive]
  · isplitl [HtB] <;> iassumption
  iintro ⟨%W1, HO⟩
  iapply (wp_bar m ρ K c W1) $$ [HcB HO HatB]
  · isplitr; · iexact HR
    isplitr; · iexact Hlev
    isplitl [HcB]; · iexact HcB
    isplitl [HO] <;> iassumption
  iintro ⟨HO, HzB, Hland⟩
  iapply (wp_load 𝒱₀ (c : Thread nD τ) none Set.univ (m := xM) (Finset.subset_univ _)) $$ Hx; iintro Hx
  rw [read_x]
  iapply (wp_own m ρ c _ _ (off1_eq c) f0) $$ Hown
  iintro Hown
  iapply (run_cmds m ρ K c _ order Finset.univ Finset.univ ok_order)
  isplitr; · iexact HR
  isplitr; · iexact Hlev
  isplitl [HO HtS HtV Hland HcV HatV Hown]
  · unfold mid
    rw [Finset.sdiff_self, bigSep_empty, bigSep_empty, bigSep_sep', bigSep_sep', bigSep_sep', ← own_pieces]
    isplitl [HO]; · iexact HO
    isplitl [HtS HtV Hland]
    · isplitl [HtS]; · iexact HtS
      isplitl [HtV] <;> iassumption
    isplitr; · iempintro
    isplitl [HcV HatV]
    · isplitl [HcV] <;> iassumption
    isplitr; · iempintro
    iexact Hown
  unfold mid
  rw [Finset.sdiff_empty, bigSep_empty, bigSep_empty, show owedC c ∅ = 0 from Finset.sum_empty]
  rw [bigSep_part lastShares_subset, last_pieces]
  iintro ⟨HO, -, HcS, -, HzV, ⟨Hlast, Hheld⟩⟩
  unfold scr
  iapply (wp_load 𝒱₀ (c : Thread nD τ) none Set.univ (m := gM) (Finset.subset_univ _)) $$ Hlast; iintro Hlast
  rw [read_g]
  iapply (wp_load 𝒱₀ (c : Thread nD τ) none Set.univ (m := wM) (Finset.subset_univ _)) $$ Hw; iintro Hw
  rw [read_w]
  iapply (wp_load 𝒱₀ (c : Thread nD τ) none Set.univ (m := oM) (Finset.subset_univ _)) $$ Hout; iintro Hout
  iapply (wp_store 𝒱₀ (c : Thread nD τ) none Set.univ (m := oM) (r := Rect.unit (s := S1024x32) ![0, 0] S1024x32.size inb_S1024x32_S1024x32_0_0) (Mk := Finset.univ) (Finset.subset_univ _)) $$ Hout; iintro Hout
  rw [write_o]
  iapply (run_drains m ρ K c _ (List.finRange 31) (List.nodup_finRange 31))
  rw [copies_univ]
  unfold mid'
  rw [Finset.sdiff_self, Finset.sdiff_empty, bigSep_empty, bigSep_empty, bigSep_sep', all_pieces, bigSep_part lastShares_subset, last_pieces]
  unfold scr
  isplitr; · iexact HR
  isplitl [HO HcS HatS Hlast Hheld]
  · isplitl [HO]; · iexact HO
    isplitl [HcS HatS]
    · isplitl [HcS] <;> iassumption
    isplitr; · iempintro
    isplitl [Hlast] <;> iassumption
  iintro ⟨⟨%W2, HO⟩, -, HzS, Hscr⟩
  rw [wp_ret]; imodintro
  iapply Hk
  unfold bodyPost Φ₁ Dat.owesAt Pipeline.owesWithin scr
  rw [show (dats m ρ 0 c).owed t₀.succ = 0 from rfl]
  isplitl [Hscr HzS HzV HzB]
  · isplitl [Hscr]; · iexact Hscr
    isplitl [HzB]; · iexact HzB
    isplitl [HzV] <;> iassumption
  isplitl [HO]
  · iexists W2
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 65536 in
/-- The pipeline's obligation of its body. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ (c : Thread nD τ) none) Set.univ
    (cc0_body (F := F) xM (Memref.isWhole_whole _) wM (Memref.isWhole_whole _) oM (Memref.isWhole_whole _) gM (Memref.isWhole_whole _)
      cc0_scratch1 cc0_scratch2 cc0_scratch3 cc0_scratch4) (fun _ => bodyPost m ρ c)
  rw [body_eq]
  iintro H
  iapply (sound_body m ρ c fun _ => bodyPost m ρ c)
  isplitl [H]; · iexact H
  iintro H; iexact H

end Cert.Proof

end
-- ==== Proof.Launch.lean ====
/-
  The launch: every device's cells get their invariants at once, the duty tokens go from the devices whose cells they belong to
  to the devices that pay them, each cell's credit is what the devices owe it; and the run of the program, at any float values.
-/
module

public import proofs.«01_k».proof.Proof.Body
public import Idealize.ShloMosaic.Lib.Pipeline.CollectiveSegs

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own DMA semaphores: the receives, then the read-outs. -/
def osem (k : Fin 62) : SemLoc sig := .dma (⟨3 + k.val, by have := k.isLt; omega⟩ : Fin 65)

theorem ownSemFacts : Pipeline.OwnSemFacts cfg0.spec osem := by decide +kernel

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun k => semVal (recvCell c k) 0) ∗ bigSep Finset.univ fun i => semVal (sendCell c i) 0) := by
  have h31 : ∀ i : Fin 31, osem (finSumFinEquiv (.inr i)) = .dma (sendS i) := fun i => congrArg SemLoc.dma (Fin.ext (by
    show 3 + (31 + i.val) = 34 + i.val
    omega))
  unfold Pipeline.ownSems0
  rw [bigSep_univ_equiv (finSumFinEquiv (m := 31) (n := 31)), bigSep_univ_sum]
  exact congrArg (fun X => iprop((bigSep Finset.univ fun k => semVal (recvCell c k) 0) ∗ X))
    (bigSep_congr fun i _ => congrArg (fun s => semVal ((c : Thread nD τ), s) 0) (h31 i))
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
/-- A device's cells, kind by kind. -/
theorem bigSep_cl (Φ : Cl → sProp 𝕄) :
    bigSep Finset.univ Φ = iprop(Φ (.inl ()) ∗ (bigSep Finset.univ fun k => Φ (.inr (.inl k))) ∗ bigSep Finset.univ fun i => Φ (.inr (.inr i))) := by
  rw [bigSep_univ_sum, bigSep_univ_sum]
  refine congrArg (fun X => iprop(X ∗ (bigSep Finset.univ fun k => Φ (.inr (.inl k))) ∗ bigSep Finset.univ fun i => Φ (.inr (.inr i)))) ?_
  rw [Finset.univ_unique, bigSep_singleton]

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : Cl => semVal (kcell (c, x)) 0 : sProp 𝕄) := by
  rw [ownSems0_eq, unscopedSems0_eq, bigSep_cl]
  iintro ⟨⟨HV, HS⟩, HB⟩
  isplitl [HB]; · iexact HB
  isplitl [HV]; · iexact HV
  iexact HS

/-! ## The ghost state minted -/

theorem csem_injective : Function.Injective csem := by
  rintro (⟨⟩ | k | i) (⟨⟩ | k' | i') h
  · rfl
  · cases h
  · cases h
  · cases h
  · have h' := congrArg dnum (SemLoc.dma.inj h)
    rw [dnum_recv, dnum_recv] at h'
    exact congrArg (fun k => Sum.inr (Sum.inl k)) (Fin.ext (by omega))
  · have h' := congrArg dnum (SemLoc.dma.inj h)
    rw [dnum_recv, dnum_send] at h'
    have := k.isLt; omega
  · cases h
  · have h' := congrArg dnum (SemLoc.dma.inj h)
    rw [dnum_recv, dnum_send] at h'
    have := k'.isLt; omega
  · have h' := congrArg dnum (SemLoc.dma.inj h)
    rw [dnum_send, dnum_send] at h'
    exact congrArg (fun k => Sum.inr (Sum.inr k)) (Fin.ext (by omega))

theorem kcell_injective : Function.Injective kcell := by
  rintro ⟨c, x⟩ ⟨c', x'⟩ h
  have h1 : c = c' := congrArg (fun g : GSem nD τ sig => g.1.1) h
  have h2 : csem x = csem x' := congrArg Prod.snd h
  rw [h1, csem_injective h2]

def ringCells : Finset (GSem nD τ sig) := Finset.univ.map ⟨kcell, kcell_injective⟩

/-- A device's duties: its rendezvous' seven, and one at each receive and each read-out. -/
abbrev Du : Type := Fin 7 ⊕ (Fin 31 ⊕ Fin 31)
/-- The cell of a duty, -/
def duCl : Du → Cl
  | .inl _ => .inl ()
  | .inr x => .inr x
/-- and its number there. -/
def duNo : Du → Fin 7
  | .inl p => p
  | .inr _ => 0
theorem du_injective : ∀ a b : Du, duCl a = duCl b → duNo a = duNo b → a = b := by
  rintro (p | x) (p' | x') h h'
  · exact congrArg Sum.inl h'
  · cases h
  · cases h
  · exact congrArg Sum.inr (Sum.inr.inj h)

def tokOf (x : Dev nD × Du) : GSem nD τ sig × ℕ × Fin 7 := (kcell (x.1, duCl x.2), 0, duNo x.2)
theorem tokOf_injective : Function.Injective tokOf := by
  rintro ⟨c, a⟩ ⟨c', a'⟩ h
  have h1 := kcell_injective (congrArg (fun x : GSem nD τ sig × ℕ × Fin 7 => x.1) h)
  have h2 : duNo a = duNo a' := congrArg (fun x : GSem nD τ sig × ℕ × Fin 7 => x.2.2) h
  exact Prod.ext (congrArg (fun x : Dev nD × Cl => x.1) h1) (du_injective a a' (congrArg (fun x : Dev nD × Cl => x.2) h1) h2)
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun p => dutyTok ER (barCell c) 0 p) ∗ (bigSep Finset.univ fun k => dutyTok ER (recvCell c k) 0 0)
    ∗ bigSep Finset.univ fun i => dutyTok ER (sendCell c i) 0 0)

/-- What the launch's element deals device `c`. -/
def G (c : Dev nD) : sProp 𝕄 :=
  iprop((bigSep Finset.univ fun x : Cl => roundState ER (sched m ρ) (kcell (c, x)) 0)
    ∗ (bigSep Finset.univ fun x : Cl => iprop(atPos ER (kcell (c, x)) 0 ∅ 0 ∗ reached ER (kcell (c, x)) 0)) ∗ toks c)

omit [FloatOps F] in
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun x : Cl => Φ (kcell (c, x)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants -/

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x => iprop(∃ κ : ℕ, cellInv ER (sched m ρ) κ (kcell (c, x))))
          ∗ (bigSep Finset.univ fun x => iprop(atPos ER (kcell (c, x)) 0 ∅ 0 ∗ reached ER (kcell (c, x)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun x : Cl => semVal (kcell (c, x)) 0) ∗ bigSep Finset.univ fun x : Cl => roundState ER (sched m ρ) (kcell (c, x)) 0)
      ⊢ (|={Set.univ}=> bigSep Finset.univ fun x => iprop(∃ κ : ℕ, cellInv ER (sched m ρ) κ (kcell (c, x))) : sProp 𝕄) from by
        rw [← bigSep_sep']
        exact (bigSep_mono fun x _ => (Rounds.body_intro ER (sched m ρ) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-- The tokens device `c` pays with. -/
def payToks (c : Dev nD) : sProp 𝕄 :=
  iprop((bigSep Finset.univ fun p => dutyTok ER (barCell (peer p c)) 0 (pinv p)) ∗ (bigSep Finset.univ fun i => dutyTok ER (recvCell (tgt i c) (rk i)) 0 0)
    ∗ bigSep Finset.univ fun i => dutyTok ER (sendCell c i) 0 0)

omit [FloatOps F] in
/-- Each token is paid by one device: the rendezvous' across the peers, the receives' across the copies. -/
theorem toks_around : (bigSep Finset.univ fun c : Dev nD => (toks c : sProp 𝕄)) = bigSep Finset.univ fun c : Dev nD => payToks c := by
  unfold toks payToks
  rw [bigSep_sep', bigSep_sep', bigSep_sep', bigSep_sep',
    ← bigSep_univ_prod (fun x : Dev nD × Fin 7 => (dutyTok ER (barCell x.1) 0 x.2 : sProp 𝕄)), bigSep_univ_equiv peerEquiv,
    ← bigSep_univ_prod (fun x : Dev nD × Fin 31 => (dutyTok ER (recvCell x.1 x.2) 0 0 : sProp 𝕄)), bigSep_univ_equiv copyEquiv,
    bigSep_univ_prod, bigSep_univ_prod]
  rfl

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem ghost_intro (K : Dev nD × Cl → ℕ) (c : Dev nD) :
    iprop(records m ρ K ∗ ((bigSep Finset.univ fun x => atPos ER (kcell (c, x)) 0 ∅ 0) ∗ payToks c)) ⊢ ghost m ρ c := by
  rw [bigSep_cl]
  unfold payToks ghost linear
  iintro ⟨#HR, ⟨HB, HV, HS⟩, HtB, HtV, HtS⟩
  iexists K
  isplitr; · iexact HR
  isplitl [HB]; · iexact HB
  isplitl [HV]; · iexact HV
  isplitl [HS]; · iexact HS
  isplitl [HtB]; · iexact HtB
  isplitl [HtV] <;> iassumption

omit [FloatOps F] in
theorem regroup :
    (bigSep Finset.univ fun c : Dev nD => iprop((bigSep Finset.univ fun x => iprop(∃ κ : ℕ, cellInv ER (sched m ρ) κ (kcell (c, x))))
          ∗ (bigSep Finset.univ fun x => iprop(atPos ER (kcell (c, x)) 0 ∅ 0 ∗ reached ER (kcell (c, x)) 0)) ∗ toks c) : sProp 𝕄)
      ⊢ bigSep Finset.univ (ghost m ρ) := by
  rw [bigSep_sep', bigSep_sep', ← bigSep_univ_prod (fun x : Dev nD × Cl => iprop(∃ κ : ℕ, cellInv ER (sched m ρ) κ (kcell x))),
    bigSep_congr (s := Finset.univ) (fun (c : Dev nD) _ => bigSep_sep' Finset.univ (fun x : Cl => (atPos ER (kcell (c, x)) 0 ∅ 0 : sProp 𝕄)) (fun x => reached ER (kcell (c, x)) 0)),
    bigSep_sep', ← bigSep_univ_prod (fun x : Dev nD × Cl => (reached ER (kcell x) 0 : sProp 𝕄)), toks_around]
  iintro ⟨HI, ⟨Hat, #HR⟩, Htok⟩
  ihave HK := (BI.bigSep_exists_pi Finset.univ (fun (x : Dev nD × Cl) (κ : ℕ) => (cellInv ER (sched m ρ) κ (kcell x) : sProp 𝕄))) $$ HI
  icases HK with ⟨%K, #HI⟩
  iapply (bigSep_with_persistent (R := records m ρ K) fun c _ => ghost_intro m ρ K c)
  isplitr
  · unfold records; isplitl; · iexact HI
    iexact HR
  · iapply (Entails.of_eq (bigSep_sep' Finset.univ (fun c : Dev nD => bigSep Finset.univ fun x : Cl => (atPos ER (kcell (c, x)) 0 ∅ 0 : sProp 𝕄)) payToks).symm)
    isplitl [Hat] <;> iassumption

omit [FloatOps F] in
/-- Every device's semaphores, at once, become its cells. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ## The launch credit -/

omit [FloatOps F] in
theorem owedC_apply (d : Dev nD) (g : GSem nD τ sig) :
    owedC d Finset.univ g () = ∑ i : Fin 31, if g = recvCell (tgt i d) (rk i) then N else 0 := by
  unfold owedC
  rw [Finset.sum_apply, Finsupp.finset_sum_apply]
  exact Finset.sum_congr rfl fun i _ => (tallyAt_apply _ _ _ _ _).trans (if_congr (and_iff_left rfl) rfl rfl)
omit [FloatOps F] in
theorem owedB_apply (d : Dev nD) (g : GSem nD τ sig) :
    owedB d Finset.univ g () = ∑ p : Fin 7, if g = barCell (peer p d) then 1 else 0 := by
  unfold owedB
  rw [Finset.sum_apply, Finsupp.finset_sum_apply]
  exact Finset.sum_congr rfl fun i _ => (tallyAt_apply _ _ _ _ _).trans (if_congr (and_iff_left rfl) rfl rfl)

/-- A rendezvous is owed seven units in all. -/
theorem owed_bar (c : Dev nD) : ∑ d : Dev nD, O₀ d (barCell c) () = 7 := by
  have hC (d : Dev nD) : owedC d Finset.univ (barCell c) () = 0 := by
    rw [owedC_apply]; exact Finset.sum_eq_zero fun i _ => if_neg fun h => by cases congrArg Prod.snd h
  have hB (d : Dev nD) : O₀ d (barCell c) () = ∑ p : Fin 7, if (peerEquiv (d, p)).1 = c then 1 else 0 := by
    show owedC d Finset.univ (barCell c) () + owedB d Finset.univ (barCell c) () = _
    rw [hC, Nat.zero_add, owedB_apply]
    exact Finset.sum_congr rfl fun p _ => if_congr ⟨fun h => (congrArg (fun g : GSem nD τ sig => g.1.1) h).symm, fun h => by rw [← h]; rfl⟩ rfl rfl
  rw [Finset.sum_congr rfl fun d _ => hB d, ← Fintype.sum_prod_type' fun (d : Dev nD) (p : Fin 7) => if (peerEquiv (d, p)).1 = c then 1 else 0,
    Equiv.sum_comp peerEquiv fun x : Dev nD × Fin 7 => if x.1 = c then 1 else 0, Fintype.sum_prod_type_right]
  simp

/-- Each receive is owed one copy's credit. -/
theorem owed_recv (c : Dev nD) (k : Fin 31) : ∑ d : Dev nD, O₀ d (recvCell c k) () = N := by
  have hB (d : Dev nD) : owedB d Finset.univ (recvCell c k) () = 0 := by
    rw [owedB_apply]; exact Finset.sum_eq_zero fun i _ => if_neg fun h => by cases congrArg Prod.snd h
  have hC (d : Dev nD) : O₀ d (recvCell c k) () = ∑ i : Fin 31, if copyEquiv (d, i) = (c, k) then N else 0 := by
    show owedC d Finset.univ (recvCell c k) () + owedB d Finset.univ (recvCell c k) () = _
    rw [hB, Nat.add_zero, owedC_apply]
    refine Finset.sum_congr rfl fun i _ => if_congr ⟨fun h => ?_, fun h => ?_⟩ rfl rfl
    · have h' := kcell_injective (a₁ := (c, .inr (.inl k))) (a₂ := (tgt i d, .inr (.inl (rk i)))) h
      have h1 : c = tgt i d := congrArg Prod.fst h'
      have h2 : k = rk i := Sum.inl.inj (Sum.inr.inj (congrArg Prod.snd h'))
      rw [h1, h2]; rfl
    · have h1 : tgt i d = c := congrArg Prod.fst h
      have h2 : rk i = k := congrArg Prod.snd h
      rw [h1, h2]
  rw [Finset.sum_congr rfl fun d _ => hC d, ← Fintype.sum_prod_type' fun (d : Dev nD) (i : Fin 31) => if copyEquiv (d, i) = (c, k) then N else 0,
    Equiv.sum_comp copyEquiv fun x : Dev nD × Fin 31 => if x = (c, k) then N else 0, Finset.sum_ite_eq', if_pos (Finset.mem_univ _)]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, owed_bar]
theorem launch_recv (c : Dev nD) (k : Fin 31) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, owed_recv]

omit [FloatOps F] in
theorem creds (c : Dev nD) :
    (Pipeline.launchCred O₀ c : sProp 𝕄) ⊢ iprop(cred (tallyAt (barCell c) () 7) ∗ bigSep Finset.univ fun k => cred (tallyAt (recvCell c k) () N)) := by
  unfold Pipeline.launchCred
  rw [bigSep_univ_at _ (SemLoc.reg barS), launch_bar]
  refine sep_mono_right ?_
  have hi : Function.Injective fun k : Fin 31 => csem (.inr (.inl k)) := fun k k' h => Sum.inl.inj (Sum.inr.inj (csem_injective h))
  have hs : Finset.univ.map ⟨fun k : Fin 31 => csem (.inr (.inl k)), hi⟩ ⊆ Finset.univ.erase (SemLoc.reg barS) := fun s h => by
    obtain ⟨k, -, rfl⟩ := Finset.mem_map.mp h
    exact Finset.mem_erase.mpr ⟨(fun h => by cases h), Finset.mem_univ _⟩
  refine (bigSep_subset hs).trans ?_
  rw [bigSep_map]
  exact bigSep_mono fun k _ => Entails.of_eq (congrArg cred (launch_recv c k))

/-! ## The run -/

theorem share_eq (c : Dev nD) (w : Fin cfg0.W) : (dats m ρ 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ scr
  iintro ⟨Hr, HzB, HzV, HzS⟩
  isplitl [HzB]; · iexact HzB
  isplitl [HzS HzV]
  · isplitl [HzV] <;> iassumption
  iexists (gathered m ρ); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- A window's array at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At any float values, from any memory with its semaphores at zero, every weakly fair execution of the program on the 32
    devices terminates, every window's array at the contents computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays after the run hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.Proof

end
-- ==== Proof.Algebra.lean ====
/-
  The extended-real side: the constants the programs spell, `silu` as kernel and reference write it, and the Cauchy–Schwarz
  bound under which the reference's clip does nothing.
-/
module

public import Idealize.ShloMosaic.PureOps.Ideal
public import Idealize.ShloMosaic.PureOps.Ideal.Laws
public import Mathlib.Algebra.Order.BigOperators.Ring.Finset
public import Mathlib.Data.EReal.Operations
public import Mathlib.Data.EReal.Inv

@[expose] public section

noncomputable section

namespace Cert.Proof

open Idealize.ShloMosaic

/-! ## The constants -/

theorem ofBits_one : Ideal.ofBits .f32 0x3F800000#32 = 1 := by
  simp [Ideal.ofBits, Ideal.ieee, -EReal.coe_mul]; norm_num
theorem ofBits_60 : Ideal.ofBits .f32 0x42700000#32 = ((60 : ℝ) : EReal) := by
  simp [Ideal.ofBits, Ideal.ieee, -EReal.coe_mul]; norm_num
theorem ofBits_neg60 : Ideal.ofBits .f32 0xC2700000#32 = ((-60 : ℝ) : EReal) := by
  simp [Ideal.ofBits, Ideal.ieee, -EReal.coe_mul]; norm_num
theorem ofBits_2400 : Ideal.ofBits .f32 0x45160000#32 = ((2400 : ℝ) : EReal) := by
  simp [Ideal.ofBits, Ideal.ieee, -EReal.coe_mul]; norm_num
theorem ofBits_three_halves : Ideal.ofBits .f32 0x3FC00000#32 = ((3 / 2 : ℝ) : EReal) := by
  simp [Ideal.ofBits, Ideal.ieee, -EReal.coe_mul]; norm_num

/-! ## The activation -/

/-- The activation `y / (1 + e^(-y))`. -/
def silu (y : EReal) : EReal := Ideal.div y (1 + Ideal.exp (-y))

theorem exp_nonneg (y : EReal) : 0 ≤ Ideal.exp y := by
  induction y with
  | bot => exact le_refl _
  | top => exact le_top
  | coe r => exact EReal.coe_nonneg.mpr (Real.exp_pos r).le

theorem denom_ne_zero (y : EReal) : (1 : EReal) + Ideal.exp y ≠ 0 := by
  refine ne_of_gt (lt_of_lt_of_le zero_lt_one ?_)
  calc (1 : EReal) = 1 + 0 := (add_zero _).symm
    _ ≤ 1 + Ideal.exp y := add_le_add_right (exp_nonneg y) 1

/-- The kernel multiplies by the reciprocal: the same, at the infinities too. -/
theorem mul_recip (y : EReal) : y * Ideal.div 1 (1 + Ideal.exp (0 - y)) = silu y := by
  unfold silu Ideal.div
  rw [zero_sub, if_neg (denom_ne_zero _), if_neg (denom_ne_zero _), one_mul]

/-! ## The bound -/

/-- A finite sum of reals is the same sum among the extended reals. -/
theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

/-- An extended real whose square is at most a real is a real. -/
theorem real_of_sq_le {x : EReal} {B : ℝ} (h : x * x ≤ (B : EReal)) : ∃ r : ℝ, x = (r : EReal) := by
  induction x with
  | bot => rw [EReal.bot_mul_bot] at h; exact absurd h (not_le_of_gt (EReal.coe_lt_top B))
  | top => rw [EReal.top_mul_top] at h; exact absurd h (not_le_of_gt (EReal.coe_lt_top B))
  | coe r => exact ⟨r, rfl⟩

theorem sq_nonneg' (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

/-- Extended reals whose squares add up to at most a real are reals, and the sum of their squares is the real one. -/
theorem reals_of_sum_sq_le {n : ℕ} {x : Fin n → EReal} {B : ℝ} (h : ∑ k, x k * x k ≤ (B : EReal)) :
    ∃ r : Fin n → ℝ, (∀ k, x k = (r k : EReal)) ∧ ∑ k, r k ^ 2 ≤ B := by
  have hk (k : Fin n) : ∃ r : ℝ, x k = (r : EReal) :=
    real_of_sq_le ((Finset.single_le_sum (f := fun k => x k * x k) (fun k _ => sq_nonneg' (x k)) (Finset.mem_univ k)).trans h)
  choose r hr using hk
  refine ⟨r, hr, EReal.coe_le_coe_iff.mp (le_trans (le_of_eq ?_) h)⟩
  rw [coe_sum]
  exact Finset.sum_congr rfl fun k _ => by rw [hr k, ← EReal.coe_mul, sq]

/-- Rows of squared length at most 2400 against columns of squared length at most 3/2: the product is a real in `[-60, 60]`. -/
theorem bound {n : ℕ} {x w : Fin n → EReal} (hx : ∑ k, x k * x k ≤ ((2400 : ℝ) : EReal)) (hw : ∑ k, w k * w k ≤ ((3 / 2 : ℝ) : EReal)) :
    ((-60 : ℝ) : EReal) ≤ ∑ k, x k * w k ∧ ∑ k, x k * w k ≤ ((60 : ℝ) : EReal) := by
  obtain ⟨r, hr, hB⟩ := reals_of_sum_sq_le hx
  obtain ⟨s, hs, hC⟩ := reals_of_sum_sq_le hw
  have e : ∑ k, x k * w k = ((∑ k, r k * s k : ℝ) : EReal) := by
    rw [coe_sum]
    exact Finset.sum_congr rfl fun k _ => by rw [hr k, hs k, EReal.coe_mul]
  have h : (∑ k, r k * s k) ^ 2 ≤ (60 : ℝ) ^ 2 := by
    calc (∑ k, r k * s k) ^ 2 ≤ (∑ k, r k ^ 2) * ∑ k, s k ^ 2 := Finset.sum_mul_sq_le_sq_mul_sq _ _ _
      _ ≤ 2400 * (3 / 2) := mul_le_mul hB hC (Finset.sum_nonneg fun k _ => sq_nonneg _) (by norm_num)
      _ = 60 ^ 2 := by norm_num
  have ha := abs_le_of_sq_le_sq' h (by norm_num)
  rw [e]
  exact ⟨EReal.coe_le_coe_iff.mpr ha.1, EReal.coe_le_coe_iff.mpr ha.2⟩

end Cert.Proof

end
-- ==== Proof.Value.lean ====
/-
  What the kernel leaves at the ideal values, against the reference without its clip: device `c`'s result is block `c` of
  the reference's.
-/
module

public import proofs.«01_k».proof.Proof.Launch
public import proofs.«01_k».proof.Proof.Algebra
public import proofs.«01_k».proof.Proof.Gen.UnclippedIdeal.Run
public import proofs.«01_k».proof.Proof.Gen.KernelIdeal.Points
public import Idealize.ShloMosaic.Lib.Layout
public import Idealize.ShloMosaic.Lib.Pipeline.Value
public import Idealize.ShloMosaic.Lib.MatmulPlain
public import Idealize.ShloMosaic.Lib.StackMember
public import Idealize.ShloMosaic.Lib.ValueIdx

@[expose] public section

noncomputable section

namespace Cert.Proof

open Cert.KernelIdeal Cert.KernelIdeal.Gen
open Idealize.ShloMosaic Idealize.ShloMosaic.TcCoe Idealize.ShloMosaic.ValueIdx
open Idealize.SL.Sem

section
variable {F : FTy → Type} [FloatOps F]
variable (m : (ℓ : Loc nD τ sig) → Buf (Elt F) ℓ) (ρ : Dev nD → PrngReg)

/-- A window's one block is its whole array: an index of the block is the same index of the array. -/
theorem emb_blk0 (y : S32x1024.Idx) : (win0_0.blk (0 : Fin 1)).view.emb y = y :=
  funext fun a => Fin.ext (win0_0.rect_emb_val_of_index_zero (0 : Fin 1) a rfl y)
theorem emb_blk1 (y : S1024x32.Idx) : (win0_1.blk (0 : Fin 1)).view.emb y = y :=
  funext fun a => Fin.ext (win0_1.rect_emb_val_of_index_zero (0 : Fin 1) a rfl y)
theorem emb_blk2 (y : S1024x32.Idx) : (win0_2.blk (0 : Fin 1)).view.emb y = y :=
  funext fun a => Fin.ext (win0_2.rect_emb_val_of_index_zero (0 : Fin 1) a rfl y)

omit [FloatOps F] in
/-- What is staged of an argument is the argument. -/
theorem xstg_eq (c : Dev nD) : xstg m ρ c = m ((c : Thread nD τ).loc main_arg0) :=
  funext fun y => congrArg (m ((c : Thread nD τ).loc main_arg0)) (emb_blk0 y)
omit [FloatOps F] in
theorem wstg_eq (c : Dev nD) : wstg m ρ c = m ((c : Thread nD τ).loc main_arg1) :=
  funext fun y => congrArg (m ((c : Thread nD τ).loc main_arg1)) (emb_blk1 y)

/-- The result array ends at the columns computed. -/
theorem finalA_out (c : Dev nD) : finalA m ρ c (2 : Fin 3) = outAt m ρ c :=
  (dats m ρ 0 c).arrAt_eq_of_cover (2 : Fin 3) (outAt m ρ c)
    (fun t _ => by
      obtain rfl : t = t₀ := fin_N t
      exact funext fun y => (congrArg (outAt m ρ c) (emb_blk2 y)).symm)
    (fun i => ⟨t₀, Cert.KernelIdeal.Gen.flush0_2 t₀, (emb_blk2 i) ▸ View.emb_mem_set (win0_2.blk (0 : Fin 1)).view i⟩)
/-- The kernel's frame, at any float values. -/
theorem run_frame : θ_run (defs (F := F)) (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run defs _ _).mono (fun _ h => ⟨fun c => ⟨(h.1 c (0 : Fin 3)).trans (finalA_x m ρ c), (h.1 c (1 : Fin 3)).trans (finalA_w m ρ c)⟩, h.2⟩)
    (run_main m ρ)
end

/-! ## At the ideal values -/

/-- The kernel's columns at an index. -/
theorem pay2_apply (A : FVec Ideal S1024x1024 .f32) (B : FVec Ideal S1024x32 .f32) (r : Fin 1024) (j : Fin 32) :
    k0_pay2 (F := Ideal) A B (ix2 r j) = silu (∑ k : Fin 1024, A (ix2 r k) * B (ix2 k j)) := by
  have hy : FloatOps.matmul dot_S1024x1024_S1024x32_S1024x32_1_0_0_1_n_n none A (shapeCast S1024x32 B shapeCasts_S1024x32_S1024x32) (constant S1024x32 .f32 0x00000000#32) (ix2 r j)
      = ∑ k : Fin 1024, A (ix2 r k) * B (ix2 k j) := by
    rw [shapeCast_self]
    refine (Ideal.matmul_plain_apply (M := 1024) (K := 1024) (N := 32) none A B (constant S1024x32 .f32 0x00000000#32) r j).trans ?_
    show Ideal.ofBits .f32 0x00000000#32 + _ = _
    rw [Ideal.ofBits_zero_f32, zero_add]
  rw [← hy, ← mul_recip, ← ofBits_one, ← Ideal.ofBits_zero_f32]
  rfl

/-- The reference's result without its clip, as its run leaves it. -/
def unclippedOf (x w : FVec Ideal S1024x1024 .f32) : FVec Ideal S1024x1024 .f32 :=
  Host.divf (Host.dotGeneral Cert.UnclippedIdeal.dot_S1024x1024_S1024x1024_S1024x1024_1_0_0_1_n_n none x w)
    (addf (broadcastInDim Cert.UnclippedIdeal.S1024x1024 ![] Cert.UnclippedIdeal.Gen.bcast_S_S1024x1024 (constant Cert.UnclippedIdeal.S_ .f32 0x3F800000#32))
      (Host.exp (Host.negf (Host.dotGeneral Cert.UnclippedIdeal.dot_S1024x1024_S1024x1024_S1024x1024_1_0_0_1_n_n none x w))))

theorem unclippedOf_apply (x w : FVec Ideal S1024x1024 .f32) (r j : Fin 1024) :
    unclippedOf x w (ix2 r j) = silu (∑ k : Fin 1024, x (ix2 r k) * w (ix2 k j)) := by
  have hy : Host.dotGeneral Cert.UnclippedIdeal.dot_S1024x1024_S1024x1024_S1024x1024_1_0_0_1_n_n none x w (ix2 r j) = ∑ k : Fin 1024, x (ix2 r k) * w (ix2 k j) :=
    StackMember.dotGeneral_plain_apply none x w r j
  rw [← hy]
  unfold silu
  rw [← ofBits_one]
  rfl

/-! ## The mesh's blocks -/

/-- Column `l` of block `c` is column `32 c + l` of the whole. -/
def col (c l : Fin 32) : Fin 1024 := ⟨c.val * 32 + l.val, by have := c.isLt; have := l.isLt; omega⟩

theorem idx_col (h : Layout.Tiles S1024x32 S1024x1024 1 32) (c : Fin 32) (r : Fin 1024) (l : Fin 32) :
    h.idx c (ix2 r l) = (ix2 r (col c l) : S1024x1024.Idx) :=
  funext fun a => match a with
    | ⟨0, _⟩ => rfl
    | ⟨1, _⟩ => rfl

/-- Row `r` of the whole is row `r % 32` of block `r / 32`. -/
theorem idx_row (h : Layout.Tiles S32x1024 S1024x1024 0 32) (r k : Fin 1024) :
    h.idx (owner r) (Shape.pair (d := S32x1024.size) (inner r) k) = (ix2 r k : S1024x1024.Idx) :=
  funext fun a => match a with
    | ⟨0, _⟩ => Fin.ext (by
        show r.val / 32 * 32 + r.val % 32 = r.val
        omega)
    | ⟨1, _⟩ => rfl

theorem tiles_rows : Layout.Tiles S32x1024 S1024x1024 0 32 := by decide
theorem tiles_cols : Layout.Tiles S1024x32 S1024x1024 1 32 := by decide

section
variable {m : (ℓ : Loc nD τ sig) → Buf (Elt Ideal) ℓ} (ρ : Dev nD → PrngReg) {x w : FVec Ideal S1024x1024 .f32}
  (hagree : ∀ c : Dev nD, m ((c.tc : Thread nD τ).loc main_arg0) = Layout.block ⟨2, ![32, 1024]⟩ ⟨2, ![1024, 1024]⟩ 0 32 c x tiles_rows
    ∧ m ((c.tc : Thread nD τ).loc main_arg1) = Layout.block ⟨2, ![1024, 32]⟩ ⟨2, ![1024, 1024]⟩ 1 32 c w tiles_cols)
include hagree

/-- The gathered array is the reference's first argument, -/
theorem gathered_apply (r k : Fin 1024) : gathered m ρ (ix2 r k) = x (ix2 r k) := by
  show xstg m ρ (owner r) (Shape.pair (d := S32x1024.size) (inner r) k) = _
  rw [xstg_eq, (hagree (owner r)).1, Layout.block_apply]
  exact congrArg x (idx_row _ r k)

/-- and a device's second argument its columns of the reference's. -/
theorem wstg_apply (c : Dev nD) (k : Fin 1024) (l : Fin 32) : wstg m ρ c (ix2 k l) = w (ix2 k (col c l)) := by
  rw [wstg_eq, (hagree c).2, Layout.block_apply]
  exact congrArg w (idx_col _ c k l)

/-- What device `c` computes is block `c` of the reference's result. -/
theorem outAt_eq (c : Dev nD) : outAt m ρ c = Layout.block ⟨2, ![1024, 32]⟩ ⟨2, ![1024, 1024]⟩ 1 32 c (unclippedOf x w) tiles_cols := by
  funext i
  obtain ⟨r, l, rfl⟩ : ∃ (r : Fin 1024) (l : Fin 32), i = ix2 r l := ⟨i 0, i 1, eq_ix2 i⟩
  rw [Layout.block_apply]
  refine (pay2_apply (gathered m ρ) (wstg m ρ c) r l).trans (Eq.trans ?_ (congrArg (unclippedOf x w) (idx_col _ c r l)).symm)
  rw [unclippedOf_apply]
  exact congrArg silu (Finset.sum_congr rfl fun k _ => by rw [gathered_apply ρ hagree, wstg_apply ρ hagree])

/-- The kernel's half of a value claim against a reference that ends holding `unclippedOf x w`. -/
theorem run_value : θ_run (defs (F := Ideal)) (onTc (τ := τ) (main (F := Ideal))) ⟨m, fun _ => 0, ρ⟩ fun r => ∀ c : Dev nD,
    r.2.mem ((c.tc : Thread nD τ).loc main_v1) = Layout.block ⟨2, ![1024, 32]⟩ ⟨2, ![1024, 1024]⟩ 1 32 c (unclippedOf x w) tiles_cols
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h.1 c (2 : Fin 3)).trans ((finalA_out m ρ c).trans (outAt_eq ρ hagree c)),
    (h.1 c (0 : Fin 3)).trans (finalA_x m ρ c), (h.1 c (1 : Fin 3)).trans (finalA_w m ρ c)⟩) (run_main m ρ)
end

end Cert.Proof

end
-- ==== Proof.Clip.lean ====
/-
  The reference's clip: under the precondition `clip_idle` every element of the product lies in `[-60, 60]`, so the reference
  ends at what it would end at without its clip.
-/
module

public import proofs.«01_k».proof.Defs
public import proofs.«01_k».proof.Proof.Value
public import proofs.«01_k».proof.Proof.Gen.ReferenceIdeal.Run
public import proofs.«01_k».proof.Proof.Gen.Pre_clip_idle_KernelIdeal
public import Idealize.ShloMosaic.Lib.IdealHost

@[expose] public section

noncomputable section

namespace Cert.Proof

open Cert.KernelIdeal Cert.KernelIdeal.Gen
open Idealize.ShloMosaic Idealize.ShloMosaic.TcCoe Idealize.ShloMosaic.ValueIdx
open Idealize.SL.Sem

/-- The reference's result, as its run leaves it. -/
def clippedOf (x w : FVec Ideal S1024x1024 .f32) : FVec Ideal S1024x1024 .f32 :=
  Host.divf (Host.dotGeneral Cert.ReferenceIdeal.dot_S1024x1024_S1024x1024_S1024x1024_1_0_0_1_n_n none x w)
    (addf (broadcastInDim Cert.ReferenceIdeal.S1024x1024 ![] Cert.ReferenceIdeal.Gen.bcast_S_S1024x1024 (constant Cert.ReferenceIdeal.S_ .f32 0x3F800000#32))
      (Host.exp (Host.negf
        (minimumf (broadcastInDim Cert.ReferenceIdeal.S1024x1024 ![] Cert.ReferenceIdeal.Gen.bcast_S_S1024x1024 (id (constant Cert.ReferenceIdeal.S_ .f32 0x42700000#32)))
          (maximumf (broadcastInDim Cert.ReferenceIdeal.S1024x1024 ![] Cert.ReferenceIdeal.Gen.bcast_S_S1024x1024 (id (constant Cert.ReferenceIdeal.S_ .f32 0xC2700000#32)))
            (Host.dotGeneral Cert.ReferenceIdeal.dot_S1024x1024_S1024x1024_S1024x1024_1_0_0_1_n_n none x w))))))

/-- At an index: the product over one plus the exponential of its clipped negative. -/
theorem clippedOf_apply (x w : FVec Ideal S1024x1024 .f32) (r j : Fin 1024) :
    clippedOf x w (ix2 r j) = Ideal.div (∑ k : Fin 1024, x (ix2 r k) * w (ix2 k j))
      (1 + Ideal.exp (-(min ((60 : ℝ) : EReal) (max ((-60 : ℝ) : EReal) (∑ k : Fin 1024, x (ix2 r k) * w (ix2 k j)))))) := by
  have hy : Host.dotGeneral Cert.ReferenceIdeal.dot_S1024x1024_S1024x1024_S1024x1024_1_0_0_1_n_n none x w (ix2 r j) = ∑ k : Fin 1024, x (ix2 r k) * w (ix2 k j) :=
    StackMember.dotGeneral_plain_apply none x w r j
  rw [← hy, ← ofBits_one, ← ofBits_60, ← ofBits_neg60]
  rfl

/-! ## The precondition -/

theorem both_one (a b : BitVec 1) (h : IntOp.andi a b = 1#1) : a = 1#1 ∧ b = 1#1 := by
  revert a b; decide

theorem le_of_cmp (a b : EReal) (h : Ideal.cmp .ole a b = 1#1) : a ≤ b := by
  by_contra hn
  simp [Ideal.cmp, hn] at h

/-- The precondition of one device's blocks: its rows' squared lengths are at most 2400, its columns' at most 3/2. -/
theorem pre_apply (a : FVec Ideal S32x1024 .f32) (b : FVec Ideal S1024x32 .f32)
    (h : Cert.Pre_clip_idle_KernelIdeal.fn (F := Ideal) a b = (fun _ => 1#1)) (j : Fin 32) :
    ∑ k : Fin 1024, a (ix2 j k) * a (ix2 j k) ≤ ((2400 : ℝ) : EReal) ∧ ∑ k : Fin 1024, b (ix2 k j) * b (ix2 k j) ≤ ((3 / 2 : ℝ) : EReal) := by
  obtain ⟨h1, h2⟩ := both_one _ _ (congrFun h (ix1 j))
  have e1 : Host.reduceAdd (F := Ideal) (mulf a a) (constant Cert.Pre_clip_idle_KernelIdeal.S_ .f32 0x00000000#32) Cert.Pre_clip_idle_KernelIdeal.Gen.reducesTo_S32x1024_S32_d1 Cert.Pre_clip_idle_KernelIdeal.Gen.h_S_ (ix1 j)
      = ∑ k : Fin 1024, a (ix2 j k) * a (ix2 j k) := by
    rw [hostReduceAdd_apply, Ideal.hostReduceAdd_single _ (by decide)]
    show Ideal.ofBits .f32 0x00000000#32 + _ = _
    rw [Ideal.ofBits_zero_f32, zero_add]
    exact Finset.sum_congr rfl fun k _ => congrArg (mulf a a) (eq_ix2 _)
  have e2 : Host.reduceAdd (F := Ideal) (mulf b b) (constant Cert.Pre_clip_idle_KernelIdeal.S_ .f32 0x00000000#32) Cert.Pre_clip_idle_KernelIdeal.Gen.reducesTo_S1024x32_S32_d0 Cert.Pre_clip_idle_KernelIdeal.Gen.h_S_ (ix1 j)
      = ∑ k : Fin 1024, b (ix2 k j) * b (ix2 k j) := by
    rw [hostReduceAdd_apply, Ideal.hostReduceAdd_single _ (by decide)]
    show Ideal.ofBits .f32 0x00000000#32 + _ = _
    rw [Ideal.ofBits_zero_f32, zero_add]
    exact Finset.sum_congr rfl fun k _ => congrArg (mulf b b) (eq_ix2 _)
  rw [← e1, ← e2, ← ofBits_2400, ← ofBits_three_halves]
  exact ⟨le_of_cmp _ _ h1, le_of_cmp _ _ h2⟩

/-- Every column of the whole is a column of some block. -/
theorem exists_col (j : Fin 1024) : ∃ (c : Dev nD) (l : Fin 32), j = col c l :=
  ⟨owner j, inner j, Fin.ext (by
    show j.val = j.val / 32 * 32 + j.val % 32
    omega)⟩

/-- Under the precondition the clip does nothing. -/
theorem clippedOf_eq {m : (ℓ : Loc nD τ sig) → Buf (Elt Ideal) ℓ} {x w : FVec Ideal S1024x1024 .f32}
    (hpre : Cert.Pre_KernelIdeal_clip_idle_KernelIdeal m)
    (hagree : ∀ c : Dev nD, m ((c.tc : Thread nD τ).loc main_arg0) = Layout.block ⟨2, ![32, 1024]⟩ ⟨2, ![1024, 1024]⟩ 0 32 c x tiles_rows
      ∧ m ((c.tc : Thread nD τ).loc main_arg1) = Layout.block ⟨2, ![1024, 32]⟩ ⟨2, ![1024, 1024]⟩ 1 32 c w tiles_cols) :
    clippedOf x w = unclippedOf x w := by
  funext i
  obtain ⟨r, j, rfl⟩ : ∃ r j : Fin 1024, i = ix2 r j := ⟨i 0, i 1, eq_ix2 i⟩
  obtain ⟨c, l, rfl⟩ := exists_col j
  have hx : ∑ k : Fin 1024, x (ix2 r k) * x (ix2 r k) ≤ ((2400 : ℝ) : EReal) := by
    have h := (pre_apply _ _ (hpre (owner r)) (inner r)).1
    have e (k : Fin 1024) : m (((owner r).tc : Thread nD τ).loc main_arg0) (ix2 (inner r) k) = x (ix2 r k) := by
      rw [(hagree (owner r)).1, Layout.block_apply]
      exact congrArg x ((congrArg _ (eq_ix2 (Shape.pair (d := S32x1024.size) (inner r) k)).symm).trans (idx_row _ r k))
    exact le_of_eq_of_le (Finset.sum_congr rfl fun k _ => by rw [e]) h
  have hw : ∑ k : Fin 1024, w (ix2 k (col c l)) * w (ix2 k (col c l)) ≤ ((3 / 2 : ℝ) : EReal) := by
    have h := (pre_apply _ _ (hpre c) l).2
    have e (k : Fin 1024) : m ((c.tc : Thread nD τ).loc main_arg1) (ix2 k l) = w (ix2 k (col c l)) := by
      rw [(hagree c).2, Layout.block_apply]
      exact congrArg w (idx_col _ c k l)
    exact le_of_eq_of_le (Finset.sum_congr rfl fun k _ => by rw [e]) h
  obtain ⟨hlo, hhi⟩ := bound hx hw
  rw [clippedOf_apply, unclippedOf_apply, max_eq_right hlo, min_eq_right hhi]
  rfl

end Cert.Proof

end
-- ==== Proof.lean ====
/-
  The proof of `Cert.Claim`: the frames of the kernel, of its idealization, of the reference and of the reference without its
  clip; and the two value claims, from the kernel's run (`run_value`) and the references' generated runs.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.UnclippedIdeal
public import proofs.«01_k».proof.Proof.Gen.ReferenceIdeal.Run
public import proofs.«01_k».proof.Proof.Gen.UnclippedIdeal.Run
public import proofs.«01_k».proof.Proof.Gen.Pre_clip_idle_KernelIdeal
public import proofs.«01_k».proof.Proof.Gen.Pre_clip_idle_ReferenceIdeal
public import proofs.«01_k».proof.Proof.Launch
public import proofs.«01_k».proof.Proof.Value
public import proofs.«01_k».proof.Proof.Clip
public import Idealize.ShloMosaic.Lib.Quiescent
public import Idealize.ShloMosaic.Adequacy
public import Idealize.ShloMosaic.Init

@[expose] public section

noncomputable section

namespace Cert.Proof

open Idealize.ShloMosaic Idealize.SL.Sem

section
variable {F : FTy → Type} [FloatOps F]

/-- The kernel and its idealization are one text: the same body at the one label, -/
theorem bodies_eq : Cert.Kernel.defs₀ (F := F) = Cert.KernelIdeal.defs₀ (F := F) :=
  congrArg Defs.onTc (funext fun l => funext fun a => match l, a with
    | 0, (_, _) => rfl)

/-- so the same body table. -/
theorem tables_eq : Cert.Kernel.defs (F := F) = Cert.KernelIdeal.defs (F := F) := by
  unfold Cert.Kernel.defs
  rw [bodies_eq]
  rfl
end

/-- The kernel's frame, at the bits: the run of the idealization's text is proved at any float values. -/
theorem frame_kernel : Cert.quiescent_Kernel := fun m ρ _ => by
  rw [tables_eq]
  exact run_frame (F := Bits) m ρ

/-- The idealization's frame. -/
theorem frame_ideal : Cert.quiescent_KernelIdeal := fun m ρ _ => run_frame (F := Ideal) m ρ

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The frame of the reference without its clip. -/
theorem frame_unclipped : Cert.quiescent_UnclippedIdeal := fun m ρ _ =>
  (θ_run Cert.UnclippedIdeal.defs _ _).mono (fun r h => ⟨fun c => (h c).2, sem_eq_zero_of_no_sems (by decide) r.2⟩)
    (Cert.UnclippedIdeal.Value.run (F := Ideal) m ρ)

/-- The kernel computes the reference without its clip, of any arguments. -/
theorem algebraic_unclipped : Cert.algebraic_KernelIdeal_UnclippedIdeal := fun m ρ m' ρ' _ hagree =>
  ⟨unclippedOf (m' (((0 : Dev Cert.UnclippedIdeal.nD).tc : Thread Cert.UnclippedIdeal.nD Cert.UnclippedIdeal.τ).loc Cert.UnclippedIdeal.main_arg0))
      (m' (((0 : Dev Cert.UnclippedIdeal.nD).tc : Thread Cert.UnclippedIdeal.nD Cert.UnclippedIdeal.τ).loc Cert.UnclippedIdeal.main_arg1)),
    run_value ρ hagree,
    (θ_run Cert.UnclippedIdeal.defs _ _).mono (fun _ h => h 0) (Cert.UnclippedIdeal.Value.run (F := Ideal) m' ρ')⟩

/-- The kernel computes the reference, of arguments whose product the clip leaves alone. -/
theorem algebraic_reference : Cert.algebraic_KernelIdeal_ReferenceIdeal_pre_clip_idle_KernelIdeal := fun m ρ m' ρ' hpre hagree =>
  ⟨unclippedOf (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    run_value ρ hagree,
    (θ_run Cert.ReferenceIdeal.defs _ _).mono (fun _ h => ⟨(h 0).1.trans (clippedOf_eq hpre hagree), (h 0).2⟩)
      (Cert.ReferenceIdeal.Value.run (F := Ideal) m' ρ')⟩

/-- Everything stated. -/
theorem claim : Cert.Claim :=
  ⟨Cert.Kernel.Gen.facts, Cert.KernelIdeal.Gen.facts, Cert.ReferenceIdeal.Gen.facts, Cert.UnclippedIdeal.Gen.facts,
    Cert.Pre_clip_idle_KernelIdeal.Gen.facts, Cert.Pre_clip_idle_ReferenceIdeal.Gen.facts,
    frame_kernel, frame_ideal, fun m ρ _ => frame_ideal m ρ trivial, frame_reference, fun m ρ _ => frame_reference m ρ trivial,
    frame_unclipped, trivial, algebraic_reference, algebraic_unclipped⟩

end Cert.Proof

end
